-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x4096x10240 : Shape := ⟨3, ![1, 4096, 10240]⟩
abbrev S10240x7168 : Shape := ⟨2, ![10240, 7168]⟩
abbrev S_ : Shape := ⟨0, ![]⟩
abbrev S1x4096 : Shape := ⟨2, ![1, 4096]⟩

class Facts : Prop where
  bitsLt_bf16_f32 : FTy.bits .bf16 < FTy.bits .f32
  reducesTo_S10240x7168_S_d0_1 : S10240x7168.ReducesTo [0, 1] S_
  h_S_ : 0 < S_.numel
  reducesTo_S1x4096x10240_S1x4096_d2 : S1x4096x10240.ReducesTo [2] S1x4096
  bcast_S_S1x4096 : S_.BroadcastsInDim S1x4096 (![] : Fin 0 → Fin S1x4096.rank)

variable [Facts]

def fn_part1 {F : FTy → Type} [FloatOps F] (main_v11 : IVec S_ 1) (main_v13 : FVec F S1x4096 .f32) (main_v15 : IVec S1x4096 1) : IVec S_ 1 × IVec S1x4096 1 :=
  let main_cst_7 : FVec F S_ .f32 := constant S_ .f32 0x00800000#32
  let main_v16 : FVec F S1x4096 .f32 := broadcastInDim S1x4096 ![] bcast_S_S1x4096 main_cst_7
  let main_v17 : IVec S1x4096 1 := cmpf .oge main_v13 main_v16
  let main_cst_8 : FVec F S_ .f32 := constant S_ .f32 0x7E800000#32
  let main_v18 : FVec F S1x4096 .f32 := broadcastInDim S1x4096 ![] bcast_S_S1x4096 main_cst_8
  let main_v19 : IVec S1x4096 1 := cmpf .olt main_v13 main_v18
  let main_v20 : IVec S1x4096 1 := andi main_v17 main_v19
  let main_v21 : IVec S1x4096 1 := ori main_v15 main_v20
  (main_v11, main_v21)

def fn {F : FTy → Type} [FloatOps F] (main_arg0 : FVec F S1x4096x10240 .bf16) (main_arg1 : FVec F S10240x7168 .bf16) : IVec S_ 1 × IVec S1x4096 1 :=
  let main_v0 : FVec F S10240x7168 .f32 := (extf .f32 · bitsLt_bf16_f32) main_arg1
  let main_v1 : FVec F S10240x7168 .f32 := Host.absf main_v0
  let main_cst : FVec F S_ .f32 := constant S_ .f32 0xFF800000#32
  let main_v2 : FVec F S_ .f32 := (fun x v => Host.reduce FloatOps.maximumf x v reducesTo_S10240x7168_S_d0_1 h_S_) main_v1 main_cst
  let main_v3 : FVec F S1x4096x10240 .f32 := (extf .f32 · bitsLt_bf16_f32) main_arg0
  let main_v4 : FVec F S1x4096x10240 .f32 := Host.absf main_v3
  let main_cst_0 : FVec F S_ .f32 := constant S_ .f32 0xFF800000#32
  let main_v5 : FVec F S1x4096 .f32 := (fun x v => Host.reduce FloatOps.maximumf x v reducesTo_S1x4096x10240_S1x4096_d2 h_S_) main_v4 main_cst_0
  let main_cst_1 : FVec F S_ .f32 := constant S_ .f32 0x3B124925#32
  let main_v6 : FVec F S_ .f32 := mulf main_v2 main_cst_1
  let main_cst_2 : FVec F S_ .f32 := constant S_ .f32 0x00000000#32
  let main_v7 : IVec S_ 1 := cmpf .oeq main_v2 main_cst_2
  let main_cst_3 : FVec F S_ .f32 := constant S_ .f32 0x00800000#32
  let main_v8 : IVec S_ 1 := cmpf .oge main_v6 main_cst_3
  let main_cst_4 : FVec F S_ .f32 := constant S_ .f32 0x7E800000#32
  let main_v9 : IVec S_ 1 := cmpf .olt main_v6 main_cst_4
  let main_v10 : IVec S_ 1 := andi main_v8 main_v9
  let main_v11 : IVec S_ 1 := ori main_v7 main_v10
  let main_cst_5 : FVec F S_ .f32 := constant S_ .f32 0x37924925#32
  let main_v12 : FVec F S1x4096 .f32 := broadcastInDim S1x4096 ![] bcast_S_S1x4096 main_cst_5
  let main_v13 : FVec F S1x4096 .f32 := mulf main_v5 main_v12
  let main_cst_6 : FVec F S_ .f32 := constant S_ .f32 0x00000000#32
  let main_v14 : FVec F S1x4096 .f32 := broadcastInDim S1x4096 ![] bcast_S_S1x4096 main_cst_6
  let main_v15 : IVec S1x4096 1 := cmpf .oeq main_v5 main_v14
  fn_part1 (F := F) main_v11 main_v13 main_v15
-- ==== Kernel.lean ====
abbrev S1x4096x10240 : Shape := ⟨3, ![1, 4096, 10240]⟩
abbrev S10240x7168 : Shape := ⟨2, ![10240, 7168]⟩
abbrev S8x128 : Shape := ⟨2, ![8, 128]⟩
abbrev S512x7168 : Shape := ⟨2, ![512, 7168]⟩
abbrev S16x7168 : Shape := ⟨2, ![16, 7168]⟩
abbrev S32x16x7168 : Shape := ⟨3, ![32, 16, 7168]⟩
abbrev S1x16x7168 : Shape := ⟨3, ![1, 16, 7168]⟩
abbrev S1 : Shape := ⟨1, ![1]⟩
abbrev S1x1x1 : Shape := ⟨3, ![1, 1, 1]⟩
abbrev S1x1 : Shape := ⟨2, ![1, 1]⟩
abbrev S4096x10240 : Shape := ⟨2, ![4096, 10240]⟩
abbrev S4096x1 : Shape := ⟨2, ![4096, 1]⟩
abbrev S256x10240 : Shape := ⟨2, ![256, 10240]⟩
abbrev S256x1 : Shape := ⟨2, ![256, 1]⟩
abbrev S256 : Shape := ⟨1, ![256]⟩
abbrev S256x128 : Shape := ⟨2, ![256, 128]⟩
abbrev S4096x7168 : Shape := ⟨2, ![4096, 7168]⟩
abbrev S512x1 : Shape := ⟨2, ![512, 1]⟩
abbrev S10240x256 : Shape := ⟨2, ![10240, 256]⟩
abbrev S512x256 : Shape := ⟨2, ![512, 256]⟩
abbrev S512x10240 : Shape := ⟨2, ![512, 10240]⟩
abbrev S1x4096x7168 : Shape := ⟨3, ![1, 4096, 7168]⟩
abbrev S1x4096x1 : Shape := ⟨3, ![1, 4096, 1]⟩

abbrev nBuf : Space → Nat
  | .hbm => 13
  | .vmem => 22
  | .smem => 0
  | _ => 0

abbrev bufTy : (tb : Table) → Fin (tcTables nBuf tb) → BufTy
  | .hbm, ⟨0, _⟩ => ⟨S1x4096x10240, .bf16⟩
  | .hbm, ⟨1, _⟩ => ⟨S10240x7168, .bf16⟩
  | .hbm, ⟨2, _⟩ => ⟨S8x128, .f32⟩
  | .hbm, ⟨3, _⟩ => ⟨S8x128, .f32⟩
  | .hbm, ⟨4, _⟩ => ⟨S4096x10240, .bf16⟩
  | .hbm, ⟨5, _⟩ => ⟨S4096x10240, .fp8e5m2⟩
  | .hbm, ⟨6, _⟩ => ⟨S4096x1, .f32⟩
  | .hbm, ⟨7, _⟩ => ⟨S4096x7168, .bf16⟩
  | .hbm, ⟨8, _⟩ => ⟨S10240x7168, .fp8e4m3⟩
  | .hbm, ⟨9, _⟩ => ⟨S1x4096x7168, .bf16⟩
  | .hbm, ⟨10, _⟩ => ⟨S1x1, .f32⟩
  | .hbm, ⟨11, _⟩ => ⟨S1x4096x10240, .fp8e5m2⟩
  | .hbm, ⟨12, _⟩ => ⟨S1x4096x1, .f32⟩
  | .local _ .vmem, ⟨0, _⟩ => ⟨S512x7168, .bf16⟩
  | .local _ .vmem, ⟨1, _⟩ => ⟨S512x7168, .bf16⟩
  | .local _ .vmem, ⟨2, _⟩ => ⟨S8x128, .f32⟩
  | .local _ .vmem, ⟨3, _⟩ => ⟨S8x128, .f32⟩
  | .local _ .vmem, ⟨4, _⟩ => ⟨S16x7168, .bf16⟩
  | .local _ .vmem, ⟨5, _⟩ => ⟨S256x10240, .bf16⟩
  | .local _ .vmem, ⟨6, _⟩ => ⟨S256x10240, .bf16⟩
  | .local _ .vmem, ⟨7, _⟩ => ⟨S256x10240, .fp8e5m2⟩
  | .local _ .vmem, ⟨8, _⟩ => ⟨S256x10240, .fp8e5m2⟩
  | .local _ .vmem, ⟨9, _⟩ => ⟨S256x1, .f32⟩
  | .local _ .vmem, ⟨10, _⟩ => ⟨S256x1, .f32⟩
  | .local _ .vmem, ⟨11, _⟩ => ⟨S4096x10240, .fp8e5m2⟩
  | .local _ .vmem, ⟨12, _⟩ => ⟨S512x1, .f32⟩
  | .local _ .vmem, ⟨13, _⟩ => ⟨S512x1, .f32⟩
  | .local _ .vmem, ⟨14, _⟩ => ⟨S10240x256, .bf16⟩
  | .local _ .vmem, ⟨15, _⟩ => ⟨S10240x256, .bf16⟩
  | .local _ .vmem, ⟨16, _⟩ => ⟨S8x128, .f32⟩
  | .local _ .vmem, ⟨17, _⟩ => ⟨S8x128, .f32⟩
  | .local _ .vmem, ⟨18, _⟩ => ⟨S512x256, .bf16⟩
  | .local _ .vmem, ⟨19, _⟩ => ⟨S512x256, .bf16⟩
  | .local _ .vmem, ⟨20, _⟩ => ⟨S10240x256, .fp8e4m3⟩
  | .local _ .vmem, ⟨21, _⟩ => ⟨S10240x256, .fp8e4m3⟩
  | _, _ => ⟨S1x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem5_0 : DmaSem sig := 17
abbrev cc2_sem5_1 : DmaSem sig := 18
abbrev cc2_sem6_0 : DmaSem sig := 19
abbrev cc2_sem6_1 : DmaSem sig := 20

abbrev nD : Nat := 1
abbrev τ : Topo := Topo.v7x

variable {F : FTy → Type} [FloatOps F]

abbrev grid0 : Pipeline.Grid := ⟨1, ![20], ![false]⟩

def k0_cond3 (i : grid0.Coords) : BitVec 1 :=
  let arg0 : BitVec 32 := BitVec.ofNat 32 (i 0).val
  let c19_i32 : BitVec 32 := 19#32
  let v10 : BitVec 1 := Scalar.cmpi .eq arg0 c19_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x10240 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![28, 8], ![false, false]⟩

def k2_mult1 (i : grid2.Coords) : BitVec 32 :=
  let arg1 : BitVec 32 := BitVec.ofNat 32 (i 1).val
  let c512_i32 : BitVec 32 := 512#32
  let v3 : BitVec 32 := Scalar.muli arg1 c512_i32
  v3
def k2_off1 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S4096x10240 .fp8e5m2 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S10240x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S10240x256 .fp8e4m3 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]
-- ==== ReferenceIdeal.lean ====
abbrev S1x4096x10240 : Shape := ⟨3, ![1, 4096, 10240]⟩
abbrev S10240x7168 : Shape := ⟨2, ![10240, 7168]⟩
abbrev S4096x10240 : Shape := ⟨2, ![4096, 10240]⟩
abbrev S4096x7168 : Shape := ⟨2, ![4096, 7168]⟩
abbrev S1x1 : Shape := ⟨2, ![1, 1]⟩
abbrev S4096x1 : Shape := ⟨2, ![4096, 1]⟩
abbrev S10240 : Shape := ⟨1, ![10240]⟩
abbrev S10240x1 : Shape := ⟨2, ![10240, 1]⟩
abbrev S1 : Shape := ⟨1, ![1]⟩
abbrev S4096 : Shape := ⟨1, ![4096]⟩
abbrev S1x4096x7168 : Shape := ⟨3, ![1, 4096, 7168]⟩
abbrev S1x4096x1 : Shape := ⟨3, ![1, 4096, 1]⟩

abbrev nBuf : Space → Nat
  | .hbm => 11
  | .vmem => 7
  | .smem => 0
  | _ => 0

abbrev bufTy : (tb : Table) → Fin (tcTables nBuf tb) → BufTy
  | .hbm, ⟨0, _⟩ => ⟨S1x4096x10240, .bf16⟩
  | .hbm, ⟨1, _⟩ => ⟨S10240x7168, .bf16⟩
  | .hbm, ⟨2, _⟩ => ⟨S4096x10240, .bf16⟩
  | .hbm, ⟨3, _⟩ => ⟨S4096x7168, .bf16⟩
  | .hbm, ⟨4, _⟩ => ⟨S10240x7168, .fp8e4m3⟩
  | .hbm, ⟨5, _⟩ => ⟨S1x1, .f32⟩
  | .hbm, ⟨6, _⟩ => ⟨S4096x10240, .fp8e5m2⟩
  | .hbm, ⟨7, _⟩ => ⟨S4096x1, .f32⟩
  | .hbm, ⟨8, _⟩ => ⟨S1x4096x7168, .bf16⟩
  | .hbm, ⟨9, _⟩ => ⟨S1x4096x10240, .fp8e5m2⟩
  | .hbm, ⟨10, _⟩ => ⟨S1x4096x1, .f32⟩
  | .local _ .vmem, ⟨0, _⟩ => ⟨S4096x10240, .bf16⟩
  | .local _ .vmem, ⟨1, _⟩ => ⟨S10240x7168, .bf16⟩
  | .local _ .vmem, ⟨2, _⟩ => ⟨S4096x7168, .bf16⟩
  | .local _ .vmem, ⟨3, _⟩ => ⟨S10240x7168, .fp8e4m3⟩
  | .local _ .vmem, ⟨4, _⟩ => ⟨S1x1, .f32⟩
  | .local _ .vmem, ⟨5, _⟩ => ⟨S4096x10240, .fp8e5m2⟩
  | .local _ .vmem, ⟨6, _⟩ => ⟨S4096x1, .f32⟩
  | _, _ => ⟨S1x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x10240 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Amax.lean ====
/- The first call of the kernel (the weight's largest magnitude, its scale and inverse): what its body leaves in each
   window's buffer and in the running maxima, and the region's proof data at any contents it is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev r0_0 : Rect S512x7168 := Rect.unit (s := S512x7168) ![0, 0] S512x7168.size inb_S512x7168_S512x7168_0_0
abbrev r0_1 : Rect S8x128 := Rect.unit (s := S8x128) ![0, 0] S8x128.size inb_S8x128_S8x128_0_0
abbrev r0_2 : Rect S16x7168 := Rect.unit (s := S16x7168) ![0, 0] S16x7168.size inb_S16x7168_S16x7168_0_0

/-- The running maxima after the first block. -/
def accFirst (x0 : Vec F S512x7168 .bf16) : Vec F S16x7168 .bf16 := View.canon [⟨r0_2, k0_pay2 (View.ld x0 r0_0)⟩]
/-- The running maxima after a later block. -/
def accLater (x0 : Vec F S512x7168 .bf16) (xs : Vec F S16x7168 .bf16) : Vec F S16x7168 .bf16 :=
  View.canon [⟨r0_2, k0_pay3 (View.ld x0 r0_0) (View.ld xs r0_2)⟩]
theorem acc_cover (p : Vec F S16x7168 .bf16) (y : S16x7168.Idx) :
    ∃ pc ∈ ([⟨r0_2, p⟩] : List (View.Piece (Elt F) S16x7168 .bf16)), y ∈ pc.1.set :=
  View.cover_of_tiled [⟨r0_2, p⟩] S16x7168.size (by rfl) y

/-- Where the weight's field is zero, from the running maxima. -/
def wZero (v : Vec F S16x7168 .bf16) : IVec S8x128 1 := k0_pay11 (k0_pay7 v) (k0_pay8 v) (k0_pay9 v)
/-- The weight's exponent, from the running maxima. -/
def wExp (v : Vec F S16x7168 .bf16) : IVec S8x128 32 := k0_pay12 (k0_pay7 v) (k0_pay8 v) (k0_pay9 v)
/-- The scale's buffer. -/
def scaleOut (xs : Vec F S16x7168 .bf16) : Vec F S8x128 .f32 :=
  View.canon [⟨r0_1, k0_pay5 (wZero (View.ld xs r0_2)) (wExp (View.ld xs r0_2)) 0#32⟩]
/-- The inverse scale's buffer. -/
def invOut (xs : Vec F S16x7168 .bf16) : Vec F S8x128 .f32 :=
  View.canon [⟨r0_1, k0_pay6 (wZero (View.ld xs r0_2)) (wExp (View.ld xs r0_2)) 0#32⟩]
theorem scale_cover (p : Vec F S8x128 .f32) (y : S8x128.Idx) :
    ∃ pc ∈ ([⟨r0_1, p⟩] : List (View.Piece (Elt F) S8x128 .f32)), y ∈ pc.1.set :=
  View.cover_of_tiled [⟨r0_1, p⟩] S8x128.size (by rfl) y

/-! ## The body's branch conditions -/

abbrev cond0_0 (i : grid0.Coords) : Prop := (Scalar.cmpi .ne (Scalar.extui (Scalar.cmpi .eq (BitVec.ofNat 32 (i 0).val) 0#32)) 0#32) = 1#1
abbrev cond0_1 (i : grid0.Coords) : Prop := (Scalar.cmpi .ne (Scalar.extui (Scalar.cmpi .sgt (BitVec.ofNat 32 (i 0).val) 0#32)) 0#32) = 1#1
abbrev cond0_2 (i : grid0.Coords) : Prop := k0_cond3 i = 1#1
theorem hcond0_0 : ∀ t : Fin cfg0.N, cond0_0 (grid0.coords t) ↔ t.val = 0 := by decide +kernel
theorem hcond0_1 : ∀ t : Fin cfg0.N, cond0_1 (grid0.coords t) ↔ t.val ≠ 0 := by decide +kernel
theorem hcond0_2 : ∀ t : Fin cfg0.N, cond0_2 (grid0.coords t) ↔ t.val = 19 := by decide +kernel
theorem idle0 : ∀ t : Fin cfg0.N, cfg0.idle 1 (grid0.coords t) = !decide (t.val = 19) ∧ cfg0.idle 2 (grid0.coords t) = !decide (t.val = 19) := by decide +kernel
theorem noflush0 : ∀ t : Fin cfg0.N, t.val ≠ 19 → (cfg0.win 1).flush t = false ∧ (cfg0.win 2).flush t = false := by decide +kernel

/-! ## The body's runs -/

set_option maxHeartbeats 1000000 in
/-- At the first point: the running maxima written. -/
theorem run0_first (c : Dev nD) (i : grid0.Coords) (arg1 : Memref sig .tc .vmem S512x7168 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x7168 .bf16) (harg4 : arg4.IsWhole) (hc0 : cond0_0 i) (hc1 : ¬cond0_1 i) (hc2 : ¬cond0_2 i)
    (x0 : Vec F S512x7168 .bf16) (x1 x2 : Vec F S8x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (accFirst x0)) -∗ K ⟨⟩))
      ⊢ wp frame (wpE (defs₀ (F := F)) Variants.none c none) E (cc0_w_amax i arg1 harg1 arg2 harg2 arg3 harg3 arg4 harg4) K := by
  simp only [cc0_w_amax_eq_skeleton]; unfold cc0_w_amax_skel
  unfold owns
  iintro ⟨⟨%f0, %hf0, H0⟩, ⟨%f1, %hf1, H1⟩, ⟨%f2, %hf2, H2⟩, ⟨%ds, %fs, -, HS⟩, Hk⟩
  subst hf0 hf1 hf2
  sl_exec (disch := first | sl_exact hc0 | sl_exact hc1 | sl_exact hc2)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  iexists _; isplitr
  swap; · iexact HS
  ipureintro
  refine (View.read_writes_eq_canon _ _ _ (acc_cover _)).trans ?_
  rfl

set_option maxHeartbeats 1000000 in
/-- At a point between: the running maxima folded with the block. -/
theorem run0_mid (c : Dev nD) (i : grid0.Coords) (arg1 : Memref sig .tc .vmem S512x7168 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x7168 .bf16) (harg4 : arg4.IsWhole) (hc0 : ¬cond0_0 i) (hc1 : cond0_1 i) (hc2 : ¬cond0_2 i)
    (x0 : Vec F S512x7168 .bf16) (x1 x2 : Vec F S8x128 .f32) (xs : Vec F S16x7168 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xs
        ∗ (iprop(owns (c : Thread nD τ) arg1 fullShare x0 ∗ owns (c : Thread nD τ) arg2 fullShare x1 ∗ owns (c : Thread nD τ) arg3 fullShare x2 ∗ owns (c : Thread nD τ) arg4 fullShare (accLater x0 xs)) -∗ K ⟨⟩))
      ⊢ wp frame (wpE (defs₀ (F := F)) Variants.none c none) E (cc0_w_amax i arg1 harg1 arg2 harg2 arg3 harg3 arg4 harg4) K := by
  simp only [cc0_w_amax_eq_skeleton]; unfold cc0_w_amax_skel
  unfold owns
  iintro ⟨⟨%f0, %hf0, H0⟩, ⟨%f1, %hf1, H1⟩, ⟨%f2, %hf2, H2⟩, ⟨%fs, %hfs, HS⟩, Hk⟩
  subst hf0 hf1 hf2 hfs
  sl_exec (disch := first | sl_exact hc0 | sl_exact hc1 | sl_exact hc2)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  iexists _; isplitr
  swap; · iexact HS
  ipureintro
  refine (View.read_writes_eq_canon _ _ _ (acc_cover _)).trans ?_
  rfl

set_option maxHeartbeats 1000000 in
/-- At the last point: the running maxima folded with the block, and the scale and its inverse written from them. -/
theorem run0_last (c : Dev nD) (i : grid0.Coords) (arg1 : Memref sig .tc .vmem S512x7168 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S16x7168 .bf16) (harg4 : arg4.IsWhole) (hc0 : ¬cond0_0 i) (hc1 : cond0_1 i) (hc2 : cond0_2 i)
    (x0 : Vec F S512x7168 .bf16) (xs : Vec F S16x7168 .bf16)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs
        ∗ (iprop(owns (c : Thread nD τ) arg1 fullShare x0 ∗ owns (c : Thread nD τ) arg2 fullShare (scaleOut (accLater x0 xs)) ∗ owns (c : Thread nD τ) arg3 fullShare (invOut (accLater x0 xs)) ∗ owns (c : Thread nD τ) arg4 fullShare (accLater x0 xs)) -∗ K ⟨⟩))
      ⊢ wp frame (wpE (defs₀ (F := F)) Variants.none c none) E (cc0_w_amax i arg1 harg1 arg2 harg2 arg3 harg3 arg4 harg4) K := by
  simp only [cc0_w_amax_eq_skeleton]; unfold cc0_w_amax_skel
  simp only [k0_part1_eq_skeleton, k0_part2_eq_skeleton]
  unfold owns
  iintro ⟨⟨%f0, %hf0, H0⟩, ⟨%d1, %f1, -, H1⟩, ⟨%d2, %f2, -, H2⟩, ⟨%fs, %hfs, HS⟩, Hk⟩
  subst hf0 hfs
  sl_exec (disch := first | sl_exact hc0 | sl_exact hc1 | sl_exact hc2)
  sl_step
  iapply Hk
  isplitl [H0]
  · iexists _; isplitr; swap; · iexact H0
    ipureintro; rfl
  isplitl [H1]
  · iexists _; isplitr
    swap; · iexact H1
    ipureintro
    refine (View.read_writes_eq_canon _ _ _ (scale_cover _)).trans ?_
    rw [show run0_last.sl.r_3 c arg1 arg4 f0 fs = wZero (View.ld (accLater (arg1.view.read (Elt F) f0) (arg4.view.read (Elt F) fs)) r0_2) from
        congrArg wZero (View.readCov_eq_canon_ld _ _ _ (fun y => acc_cover _ y)),
      show run0_last.sl.r_4 c arg1 arg4 f0 fs = wExp (View.ld (accLater (arg1.view.read (Elt F) f0) (arg4.view.read (Elt F) fs)) r0_2) from
        congrArg wExp (View.readCov_eq_canon_ld _ _ _ (fun y => acc_cover _ y))]
    rfl
  isplitl [H2]
  · iexists _; isplitr
    swap; · iexact H2
    ipureintro
    refine (View.read_writes_eq_canon _ _ _ (scale_cover _)).trans ?_
    rw [show run0_last.sl.r_3 c arg1 arg4 f0 fs = wZero (View.ld (accLater (arg1.view.read (Elt F) f0) (arg4.view.read (Elt F) fs)) r0_2) from
        congrArg wZero (View.readCov_eq_canon_ld _ _ _ (fun y => acc_cover _ y)),
      show run0_last.sl.r_4 c arg1 arg4 f0 fs = wExp (View.ld (accLater (arg1.view.read (Elt F) f0) (arg4.view.read (Elt F) fs)) r0_2) from
        congrArg wExp (View.readCov_eq_canon_ld _ _ _ (fun y => acc_cover _ y))]
    rfl
  iexists _; isplitr
  swap; · iexact HS
  ipureintro
  refine (View.read_writes_eq_canon _ _ _ (acc_cover _)).trans ?_
  rfl

/-! ## The region's proof data, at the contents `V` it is entered with -/

variable (V : Dev nD → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The running maxima after point `n`. -/
def acc (c : Dev nD) : (n : ℕ) → n < cfg0.N → Vec F S16x7168 .bf16
  | 0, hn => accFirst (iblk0 V c 0 ⟨0, hn⟩)
  | n + 1, hn => accLater (iblk0 V c 0 ⟨n + 1, hn⟩) (acc c n (Nat.lt_of_succ_lt hn))

abbrev scM : Memref sig .tc .vmem S16x7168 .bf16 := Memref.whole cc0_scratch0

/-- The region's scoped buffers beside its staging: the running maxima's, and the others. -/
theorem others_exists (c : Dev nD) : ∃ R : sProp 𝕄, (Pipeline.scopedRest (Ix := Unit) (Name := ℕ) (U := UR sig nD τ) (Lvl := ℕ) (Val := Elt F) spec0 c : sProp 𝕄)
    = iprop((∃ d, owns (c : Thread nD τ) scM fullShare d) ∗ R) :=
  ⟨_, by rw [scopedRest0_eq]; simp only [scM, owns_whole]; rfl⟩
def others (c : Dev nD) : sProp 𝕄 := (others_exists (F := F) c).choose
theorem scoped_eq (c : Dev nD) : (Pipeline.scopedRest (Ix := Unit) (Name := ℕ) (U := UR sig nD τ) (Lvl := ℕ) (Val := Elt F) spec0 c : sProp 𝕄)
    = iprop((∃ d, owns (c : Thread nD τ) scM fullShare d) ∗ others c) := (others_exists c).choose_spec

/-- The invariant before point `n`: the running maxima at what the point before left. -/
def Phi0 (c : Dev nD) : (n : ℕ) → n ≤ cfg0.N → sProp 𝕄
  | 0, _ => iprop(((∃ d, owns (c : Thread nD τ) scM fullShare d) ∗ others c) ∗ ∃ r, prngReg c r)
  | n + 1, hn => iprop((owns (c : Thread nD τ) scM fullShare (acc V c n hn) ∗ others c) ∗ ∃ r, prngReg c r)

/-- The arrays as the region finds them; after the body at `t` the weight's block in place, and the scale and its inverse
    from the running maxima (written at the last point, at the others idle). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => scaleOut (acc V c t.val t.isLt)
    | ⟨2, _⟩ => invOut (acc V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = scaleOut (acc V c t.val t.isLt) := by dsimp only [dat0]
theorem after0_2 (c : Dev nD) (t : Fin cfg0.N) : (dat0 V c).after 2 t = invOut (acc V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  obtain ⟨i1, i2⟩ := idle0 t
  rw [show (dat0 V c).owesAt () t.succ = (dat0 V c).owesAt () t.castSucc from rfl,
    show (dat0 V c).leavesExact 0 t = owns (c : Thread nD τ) (st0_0 t) fullShare ((dat0 V c).after 0 t) from by
      unfold Dat.leavesExact; rw [show cfg0.idle 0 (cfg0.grid.coords t) = false from rfl], after0_0]
  obtain ⟨n, hn⟩ := t
  have hN : n < 20 := Nat.lt_of_lt_of_eq hn N_0
  cases n with
  | zero =>
    have h19 : ¬ (0 : ℕ) = 19 := by decide
    obtain ⟨e1, e2⟩ := noflush0 ⟨0, hn⟩ h19
    rw [Dat.leavesExact_idle (dat0 V c) 1 ⟨0, hn⟩ (i1.trans (by rw [decide_eq_false h19]; rfl)) e1,
      Dat.leavesExact_idle (dat0 V c) 2 ⟨0, hn⟩ (i2.trans (by rw [decide_eq_false h19]; rfl)) e2]
    have hc2 : ¬cond0_2 (grid0.coords ⟨0, hn⟩) := fun h => h19 ((hcond0_2 _).mp h)
    rw [show (dat0 V c).Φ (Fin.castSucc ⟨0, hn⟩) = iprop(((∃ d, owns (c : Thread nD τ) scM fullShare d) ∗ others c) ∗ ∃ r, prngReg c r) from rfl,
      show (dat0 V c).Φ (Fin.succ ⟨0, hn⟩) = iprop((owns (c : Thread nD τ) scM fullShare (accFirst (iblk0 V c 0 ⟨0, hn⟩)) ∗ others c) ∗ ∃ r, prngReg c r) from rfl]
    iintro ⟨⟨⟨HS, Hr⟩, Hg⟩, Ho, ⟨%d0, H0⟩, ⟨%d1, H1⟩, ⟨%d2, H2⟩⟩
    iapply (run0_first c (grid0.coords ⟨0, hn⟩) _ _ _ _ _ _ _ (Memref.isWhole_whole _) ((hcond0_0 _).mpr rfl) (fun h => (hcond0_1 _).mp h rfl) hc2 (iblk0 V c 0 ⟨0, hn⟩) _ _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexists _; iexact H1
    iexists _; iexact H2
  | succ n =>
    by_cases h19 : n + 1 = 19
    · rw [show (dat0 V c).leavesExact 1 ⟨n + 1, hn⟩ = owns (c : Thread nD τ) (st0_1 ⟨n + 1, hn⟩) fullShare ((dat0 V c).after 1 ⟨n + 1, hn⟩) from by
          unfold Dat.leavesExact; rw [i1, decide_eq_true h19]; rfl,
        show (dat0 V c).leavesExact 2 ⟨n + 1, hn⟩ = owns (c : Thread nD τ) (st0_2 ⟨n + 1, hn⟩) fullShare ((dat0 V c).after 2 ⟨n + 1, hn⟩) from by
          unfold Dat.leavesExact; rw [i2, decide_eq_true h19]; rfl, after0_1, after0_2,
        show (dat0 V c).Φ (Fin.castSucc ⟨n + 1, hn⟩) = iprop((owns (c : Thread nD τ) scM fullShare (acc V c n (Nat.lt_of_succ_lt hn)) ∗ others c) ∗ ∃ r, prngReg c r) from rfl,
        show (dat0 V c).Φ (Fin.succ ⟨n + 1, hn⟩) = iprop((owns (c : Thread nD τ) scM fullShare (acc V c (n + 1) hn) ∗ others c) ∗ ∃ r, prngReg c r) from rfl,
        show acc V c (n + 1) hn = accLater (iblk0 V c 0 ⟨n + 1, hn⟩) (acc V c n (Nat.lt_of_succ_lt hn)) from rfl]
      iintro ⟨⟨⟨HS, Hr⟩, Hg⟩, Ho, ⟨%d0, H0⟩, ⟨%d1, H1⟩, ⟨%d2, H2⟩⟩
      iapply (run0_last c (grid0.coords ⟨n + 1, hn⟩) _ _ _ _ _ _ _ (Memref.isWhole_whole _) (fun h => Nat.succ_ne_zero n ((hcond0_0 _).mp h)) ((hcond0_1 _).mpr (Nat.succ_ne_zero n)) ((hcond0_2 _).mpr h19) (iblk0 V c 0 ⟨n + 1, hn⟩) _ Set.univ _)
      isplitl [H0]; · iexact H0
      isplitl [H1]; · iexists _; iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · obtain ⟨e1, e2⟩ := noflush0 ⟨n + 1, hn⟩ h19
      rw [Dat.leavesExact_idle (dat0 V c) 1 ⟨n + 1, hn⟩ (i1.trans (by rw [decide_eq_false h19]; rfl)) e1,
        Dat.leavesExact_idle (dat0 V c) 2 ⟨n + 1, hn⟩ (i2.trans (by rw [decide_eq_false h19]; rfl)) e2]
      have hc2 : ¬cond0_2 (grid0.coords ⟨n + 1, hn⟩) := fun h => h19 ((hcond0_2 _).mp h)
      rw [show (dat0 V c).Φ (Fin.castSucc ⟨n + 1, hn⟩) = iprop((owns (c : Thread nD τ) scM fullShare (acc V c n (Nat.lt_of_succ_lt hn)) ∗ others c) ∗ ∃ r, prngReg c r) from rfl,
        show (dat0 V c).Φ (Fin.succ ⟨n + 1, hn⟩) = iprop((owns (c : Thread nD τ) scM fullShare (accLater (iblk0 V c 0 ⟨n + 1, hn⟩) (acc V c n (Nat.lt_of_succ_lt hn))) ∗ others c) ∗ ∃ r, prngReg c r) from rfl]
      iintro ⟨⟨⟨HS, Hr⟩, Hg⟩, Ho, ⟨%d0, H0⟩, ⟨%d1, H1⟩, ⟨%d2, H2⟩⟩
      iapply (run0_mid c (grid0.coords ⟨n + 1, hn⟩) _ _ _ _ _ _ _ (Memref.isWhole_whole _) (fun h => Nat.succ_ne_zero n ((hcond0_0 _).mp h)) ((hcond0_1 _).mpr (Nat.succ_ne_zero n)) hc2 (iblk0 V c 0 ⟨n + 1, hn⟩) _ _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexists _; iexact H1
      iexists _; iexact H2

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end

end
-- ==== Proof.Quant.lean ====
/- The second call of the kernel (dy's rows to codes and scales): what its body leaves in each window's buffer, and the
   region's proof data at any contents it is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev r1_0 : Rect S256x10240 := Rect.unit (s := S256x10240) ![0, 0] S256x10240.size inb_S256x10240_S256x10240_0_0
abbrev r1_1 : Rect S256x1 := Rect.unit (s := S256x1) ![0, 0] S256x1.size inb_S256x1_S256x1_0_0

/-- Where a row's field is zero. -/
def rowZero (x : Vec F S256x10240 .bf16) : IVec S256x128 1 := k1_pay9 (k1_pay5 x) (k1_pay6 x) (k1_pay7 x)
/-- Each row's exponent. -/
def rowExp (x : Vec F S256x10240 .bf16) : IVec S256x128 32 := k1_pay10 (k1_pay5 x) (k1_pay6 x) (k1_pay7 x)
/-- The codes of 256 rows. -/
def rowCodes (x : Vec F S256x10240 .bf16) : FVec F S256x10240 .fp8e5m2 := k1_pay3 (k1_pay4 x) (rowZero x) (rowExp x) 0#32
/-- The scales of 256 rows. -/
def rowScales (x : Vec F S256x10240 .bf16) : FVec F S256x1 .f32 := k1_pay2 (rowZero x) (rowExp x) 0#32

/-- The codes' buffer after the body. -/
def out1_1 (x0 : Vec F S256x10240 .bf16) : Vec F S256x10240 .fp8e5m2 :=
  View.canon [⟨r1_0, rowCodes (View.ld x0 r1_0)⟩]

theorem cover1_1 (p0 : Vec F S256x10240 .fp8e5m2) (y : S256x10240.Idx) :
    ∃ pc ∈ ([⟨r1_0, p0⟩] : List (View.Piece (Elt F) S256x10240 .fp8e5m2)), y ∈ pc.1.set :=
  View.cover_of_tiled [⟨r1_0, p0⟩] S256x10240.size (by rfl) y

/-- The scales' buffer after the body. -/
def out1_2 (x0 : Vec F S256x10240 .bf16) : Vec F S256x1 .f32 :=
  View.canon [⟨r1_1, rowScales (View.ld x0 r1_0)⟩]

theorem cover1_2 (p0 : Vec F S256x1 .f32) (y : S256x1.Idx) :
    ∃ pc ∈ ([⟨r1_1, p0⟩] : List (View.Piece (Elt F) S256x1 .f32)), y ∈ pc.1.set :=
  View.cover_of_tiled [⟨r1_1, p0⟩] S256x1.size (by rfl) y

/-! ## The body's run -/

set_option maxHeartbeats 1000000 in
/-- The body on whole staging buffers: dy's rows as they were, the codes' and the scales' buffers written. -/
theorem sound_kernel1 (c : Dev nD) (E : Set ℕ) (i : grid1.Coords) (arg1 : Memref sig .tc .vmem S256x10240 .bf16) (harg1 : arg1.IsWhole) (arg2 : Memref sig .tc .vmem S256x10240 .fp8e5m2) (harg2 : arg2.IsWhole) (arg3 : Memref sig .tc .vmem S256x1 .f32) (harg3 : arg3.IsWhole)
    (x0 : Vec F S256x10240 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1_dy_quant i arg1 harg1 arg2 harg2 arg3 harg3) K := by
  simp only [cc1_dy_quant_eq_skeleton]; unfold cc1_dy_quant_skel
  simp only [k1_part1_eq_skeleton, k1_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover1_1 _)).trans ?_
    rfl
  iexists _; isplitr
  swap; · iexact H2
  ipureintro
  refine (View.read_writes_eq_canon _ _ _ (cover1_2 _)).trans ?_
  rfl

/-! ## The region's proof data, at the contents `V` it is entered with -/

variable (V : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The arrays as the region finds them; after the body at `t` dy's block in place and the two outputs written. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end

end
-- ==== Proof.Matmul.lean ====
/- The third call of the kernel (the product and the weight's codes): what its body leaves in each window's buffer, and
   the region's proof data at any contents it is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ
/-! ## The rectangles the body reads and writes -/

abbrev rW : Rect S10240x256 := Rect.unit (s := S10240x256) ![0, 0] S10240x256.size inb_S10240x256_S10240x256_0_0
abbrev rS : Rect S8x128 := Rect.unit (s := S8x128) ![0, 0] S1x1.size inb_S8x128_S1x1_0_0
abbrev rD : Rect S512x256 := Rect.unit (s := S512x256) ![0, 0] S512x256.size inb_S512x256_S512x256_0_0
abbrev rR : Rect S512x1 := Rect.unit (s := S512x1) ![0, 0] S512x1.size inb_S512x1_S512x1_0_0
/-- The rows of dy's codes that point `i` multiplies. -/
abbrev rA (i : grid2.Coords) : Rect S4096x10240 := Rect.unit (s := S4096x10240) (k2_off1 i) S512x10240.size (k2_off1_inb i)

/-! ## What the body leaves -/

/-- The codes' buffer, from the weight's block and the inverse scale. -/
def codesOut (x2 : Vec F S10240x256 .bf16) (x4 : Vec F S8x128 .f32) : Vec F S10240x256 .fp8e4m3 :=
  View.canon [⟨rW, k2_pay1 (View.ld x2 rW) (View.ld x4 rS)⟩]

theorem codes_cover (p : Vec F S10240x256 .fp8e4m3) (y : S10240x256.Idx) :
    ∃ pc ∈ ([⟨rW, p⟩] : List (View.Piece (Elt F) S10240x256 .fp8e4m3)), y ∈ pc.1.set :=
  View.cover_of_tiled [⟨rW, p⟩] S10240x256.size (by rfl) y

/-- The product's buffer, from dy's codes, the weight's codes and the two scales. -/
def dxOut (i : grid2.Coords) (x0 : Vec F S4096x10240 .fp8e5m2) (w : Vec F S10240x256 .fp8e4m3) (x1 : Vec F S512x1 .f32)
    (x3 : Vec F S8x128 .f32) : Vec F S512x256 .bf16 :=
  View.canon [⟨rD, k2_pay2 (View.ld x0 (rA i)) (View.ld w rW) (View.ld x1 rR) (View.ld x3 rS)⟩]

theorem dx_cover (p : Vec F S512x256 .bf16) (y : S512x256.Idx) :
    ∃ pc ∈ ([⟨rD, p⟩] : List (View.Piece (Elt F) S512x256 .bf16)), y ∈ pc.1.set :=
  View.cover_of_tiled [⟨rD, p⟩] S512x256.size (by rfl) y

/-! ## The two runs -/

set_option maxHeartbeats 1000000 in
/-- At m = 0: both outputs written, the codes read back. -/
theorem run_first (c : Dev nD) (i : grid2.Coords) (arg2 : Memref sig .tc .vmem S4096x10240 .fp8e5m2) (harg2 : arg2.IsWhole) (arg3 : Memref sig .tc .vmem S512x1 .f32) (harg3 : arg3.IsWhole) (arg4 : Memref sig .tc .vmem S10240x256 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S512x256 .bf16) (harg7 : arg7.IsWhole) (arg8 : Memref sig .tc .vmem S10240x256 .fp8e4m3) (harg8 : arg8.IsWhole) (hc0 : k2_cond1 i = 1#1)
    (x0 : Vec F S4096x10240 .fp8e5m2) (x1 : Vec F S512x1 .f32) (x2 : Vec F S10240x256 .bf16) (x3 : Vec F S8x128 .f32) (x4 : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (dxOut i x0 (codesOut x2 x4) x1 x3) ∗ owns (c : Thread nD τ) arg8 fullShare (codesOut x2 x4)) -∗ K ⟨⟩))
      ⊢ wp frame (wpE (defs₀ (F := F)) Variants.none c none) E (cc2_dgrad i arg2 harg2 arg3 harg3 arg4 harg4 arg5 harg5 arg6 harg6 arg7 harg7 arg8 harg8) K := by
  simp only [cc2_dgrad_eq_skeleton]; unfold cc2_dgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr
    swap; · iexact H5
    ipureintro
    refine (View.read_writes_eq_canon _ _ _ (dx_cover _)).trans ?_
    rw [show run_first.sl.v8 c arg4 arg6 arg8 f2 f4 = View.ld (codesOut (arg4.view.read (Elt F) f2) (arg6.view.read (Elt F) f4)) rW from
      View.readCov_eq_canon_ld _ _ _ (fun y => codes_cover _ y)]
    rfl
  iexists _; isplitr
  swap; · iexact H6
  ipureintro
  refine (View.read_writes_eq_canon _ _ _ (codes_cover _)).trans ?_
  rfl

set_option maxHeartbeats 1000000 in
/-- At m > 0: the product's buffer written, the codes read as found. -/
theorem run_later (c : Dev nD) (i : grid2.Coords) (arg2 : Memref sig .tc .vmem S4096x10240 .fp8e5m2) (harg2 : arg2.IsWhole) (arg3 : Memref sig .tc .vmem S512x1 .f32) (harg3 : arg3.IsWhole) (arg4 : Memref sig .tc .vmem S10240x256 .bf16) (harg4 : arg4.IsWhole) (arg5 : Memref sig .tc .vmem S8x128 .f32) (harg5 : arg5.IsWhole) (arg6 : Memref sig .tc .vmem S8x128 .f32) (harg6 : arg6.IsWhole) (arg7 : Memref sig .tc .vmem S512x256 .bf16) (harg7 : arg7.IsWhole) (arg8 : Memref sig .tc .vmem S10240x256 .fp8e4m3) (harg8 : arg8.IsWhole) (hc0 : ¬k2_cond1 i = 1#1)
    (x0 : Vec F S4096x10240 .fp8e5m2) (x1 : Vec F S512x1 .f32) (x2 : Vec F S10240x256 .bf16) (x3 : Vec F S8x128 .f32) (x4 : Vec F S8x128 .f32) (x6 : Vec F S10240x256 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (dxOut i x0 x6 x1 x3) ∗ owns (c : Thread nD τ) arg8 fullShare x6) -∗ K ⟨⟩))
      ⊢ wp frame (wpE (defs₀ (F := F)) Variants.none c none) E (cc2_dgrad i arg2 harg2 arg3 harg3 arg4 harg4 arg5 harg5 arg6 harg6 arg7 harg7 arg8 harg8) K := by
  simp only [cc2_dgrad_eq_skeleton]; unfold cc2_dgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc0)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr
    swap; · iexact H5
    ipureintro
    refine (View.read_writes_eq_canon _ _ _ (dx_cover _)).trans ?_
    rfl
  iexists _; isplitr; swap; · iexact H6
  ipureintro; rfl

/-! ## The region's proof data, at the contents `V` it is entered with -/

variable (V : Dev nD → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The arrays as the region finds them; after the body at `t` the inputs' blocks in place, the product's buffer written,
    and the codes' buffer at the codes of the weight's block, whether the point wrote them or found them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => dxOut (grid2.coords t) (iblk2 V c 0 t) (codesOut (iblk2 V c 2 t) (iblk2 V c 4 t)) (iblk2 V c 1 t) (iblk2 V c 3 t)
    | ⟨6, _⟩ => codesOut (iblk2 V c 2 t) (iblk2 V c 4 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem before2_0 (c : Dev nD) (t : Fin cfg2.N) (d) : (dat2 V c).before 0 t d = iblk2 V c 0 t :=
  before2_0_of V (dat2 V c) (A_eq2 V c 0) (after2_0 V c) t d
theorem after2_1 (c : Dev nD) (t : Fin cfg2.N) : (dat2 V c).after 1 t = iblk2 V c 1 t := by dsimp only [dat2]
theorem before2_1 (c : Dev nD) (t : Fin cfg2.N) (d) : (dat2 V c).before 1 t d = iblk2 V c 1 t :=
  before2_1_of V (dat2 V c) (A_eq2 V c 1) (after2_1 V c) t d
theorem after2_2 (c : Dev nD) (t : Fin cfg2.N) : (dat2 V c).after 2 t = iblk2 V c 2 t := by dsimp only [dat2]
theorem before2_2 (c : Dev nD) (t : Fin cfg2.N) (d) : (dat2 V c).before 2 t d = iblk2 V c 2 t :=
  before2_2_of V (dat2 V c) (A_eq2 V c 2) (after2_2 V c) t d
theorem after2_3 (c : Dev nD) (t : Fin cfg2.N) : (dat2 V c).after 3 t = iblk2 V c 3 t := by dsimp only [dat2]
theorem before2_3 (c : Dev nD) (t : Fin cfg2.N) (d) : (dat2 V c).before 3 t d = iblk2 V c 3 t :=
  before2_3_of V (dat2 V c) (A_eq2 V c 3) (after2_3 V c) t d
theorem after2_4 (c : Dev nD) (t : Fin cfg2.N) : (dat2 V c).after 4 t = iblk2 V c 4 t := by dsimp only [dat2]
theorem before2_4 (c : Dev nD) (t : Fin cfg2.N) (d) : (dat2 V c).before 4 t d = iblk2 V c 4 t :=
  before2_4_of V (dat2 V c) (A_eq2 V c 4) (after2_4 V c) t d

theorem after2_5 (c : Dev nD) (t : Fin cfg2.N) : (dat2 V c).after 5 t
    = dxOut (grid2.coords t) (iblk2 V c 0 t) (codesOut (iblk2 V c 2 t) (iblk2 V c 4 t)) (iblk2 V c 1 t) (iblk2 V c 3 t) := by dsimp only [dat2]
theorem after2_6 (c : Dev nD) (t : Fin cfg2.N) : (dat2 V c).after 6 t = codesOut (iblk2 V c 2 t) (iblk2 V c 4 t) := by dsimp only [dat2]

/-- The codes are written at the points with m = 0. -/
theorem hcond2 : ∀ t : Fin cfg2.N, k2_cond1 (grid2.coords t) = 1#1 ↔ t.val % 8 = 0 :=
  (fun t => by
    have ht : t.val < 224 := Nat.lt_of_lt_of_eq t.isLt N_2
    have e1 : (grid2.coords t 1).val = t.val / 1 % 8 := Pipeline.Grid.coords_val t 1 (by decide) rfl
    simp only [k2_cond1, e1]
    word_cmp
   : ∀ t : Fin grid2.N, k2_cond1 (grid2.coords t) = 1#1 ↔ t.val % 8 = 0)

theorem idle2_6 : ∀ t : Fin cfg2.N, cfg2.idle 6 (grid2.coords t) = !decide (t.val % 8 = 0) := by decide +kernel
theorem live2_5 : ∀ t : Fin cfg2.N, cfg2.idle 5 (grid2.coords t) = false := by decide +kernel
theorem nofetch2_6 (t : Fin cfg2.N) : (cfg2.win 6).fetch t = false := rfl

/-- Window 2's block stays the same over the points of one n. -/
theorem iblk2_2_pred (c : Dev nD) (t : Fin cfg2.N) (h : t.val % 8 ≠ 0) :
    (iblk2 V c 2 t : Vec F S10240x256 .bf16) = iblk2 V c 2 ⟨t.val - 1, Nat.lt_of_le_of_lt (Nat.sub_le _ _) t.isLt⟩ := by
  have hf : (cfg2.win 2).fetch t = false := by
    rw [Bool.eq_false_iff, Ne, fetch2_2 t]; omega
  have e := before2_2 V c t (iblk2 V c 2 t)
  rw [(dat2 V c).before_unfetched_in 2 rfl t hf (fun _ => rfl)] at e
  exact e.symm.trans ((show (dat2 V c).kept 2 ⟨t.val - 1, _⟩ _ = (dat2 V c).after 2 ⟨t.val - 1, _⟩ from rfl).trans (after2_2 V c _))

/-- Window 4's block stays the same over the points of one n. -/
theorem iblk2_4_pred (c : Dev nD) (t : Fin cfg2.N) (h : t.val % 8 ≠ 0) :
    (iblk2 V c 4 t : Vec F S8x128 .f32) = iblk2 V c 4 ⟨t.val - 1, Nat.lt_of_le_of_lt (Nat.sub_le _ _) t.isLt⟩ := by
  have hf : (cfg2.win 4).fetch t = false := by
    rw [Bool.eq_false_iff, Ne, fetch2_4 t]; omega
  have e := before2_4 V c t (iblk2 V c 4 t)
  rw [(dat2 V c).before_unfetched_in 4 rfl t hf (fun _ => rfl)] at e
  exact e.symm.trans ((show (dat2 V c).kept 4 ⟨t.val - 1, _⟩ _ = (dat2 V c).after 4 ⟨t.val - 1, _⟩ from rfl).trans (after2_4 V c _))

/-- At a point with m > 0 the codes' buffer holds the codes of the weight's block, left there by the points before. -/
theorem before2_6 (c : Dev nD) : ∀ (n : ℕ) (hn : n < cfg2.N), n % 8 ≠ 0 → ∀ d,
    (dat2 V c).before 6 ⟨n, hn⟩ d = codesOut (iblk2 V c 2 ⟨n, hn⟩) (iblk2 V c 4 ⟨n, hn⟩) := by
  intro n
  induction n with
  | zero => intro _ h; exact absurd rfl h
  | succ n ih =>
    intro hn h d
    have hfl : (cfg2.win 6).flush ⟨n, Nat.lt_of_succ_lt hn⟩ = false := by
      rw [Bool.eq_false_iff, Ne, flush2_6]; dsimp only; omega
    rw [(dat2 V c).before_of_pos 6 ⟨n + 1, hn⟩ (Nat.succ_ne_zero n) rfl d]
    refine (if_neg (by rw [show (⟨(⟨n + 1, hn⟩ : Fin cfg2.N).val - 1, Nat.lt_of_le_of_lt (Nat.sub_le _ _) hn⟩ : Fin cfg2.N) = ⟨n, Nat.lt_of_succ_lt hn⟩ from rfl, hfl]; exact Bool.false_ne_true)).trans ?_
    rw [iblk2_2_pred V c ⟨n + 1, hn⟩ h, iblk2_4_pred V c ⟨n + 1, hn⟩ h]
    show (dat2 V c).left 6 ⟨n, Nat.lt_of_succ_lt hn⟩ d = codesOut (iblk2 V c 2 ⟨n, Nat.lt_of_succ_lt hn⟩) (iblk2 V c 4 ⟨n, Nat.lt_of_succ_lt hn⟩)
    unfold Dat.left
    have hi : cfg2.idle 6 (cfg2.grid.coords ⟨n, Nat.lt_of_succ_lt hn⟩) = !decide (n % 8 = 0) := idle2_6 ⟨n, Nat.lt_of_succ_lt hn⟩
    by_cases h0 : n % 8 = 0
    · rw [hi, decide_eq_true h0]
      exact (show (dat2 V c).kept 6 ⟨n, _⟩ d = (dat2 V c).after 6 ⟨n, _⟩ from rfl).trans (after2_6 V c _)
    · rw [hi, decide_eq_false h0]
      exact ih _ h0 d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 1600000 in
/-- The body at any point: the codes written at m = 0, found otherwise. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    show (dat2 V c).leavesExact 0 t = owns (c : Thread nD τ) (st2_0 t) fullShare ((dat2 V c).after 0 t) from by
      unfold Dat.leavesExact; rw [show cfg2.idle 0 (cfg2.grid.coords t) = false from rfl],
    show (dat2 V c).leavesExact 1 t = owns (c : Thread nD τ) (st2_1 t) fullShare ((dat2 V c).after 1 t) from by
      unfold Dat.leavesExact; rw [show cfg2.idle 1 (cfg2.grid.coords t) = false from rfl],
    show (dat2 V c).leavesExact 2 t = owns (c : Thread nD τ) (st2_2 t) fullShare ((dat2 V c).after 2 t) from by
      unfold Dat.leavesExact; rw [show cfg2.idle 2 (cfg2.grid.coords t) = false from rfl],
    show (dat2 V c).leavesExact 3 t = owns (c : Thread nD τ) (st2_3 t) fullShare ((dat2 V c).after 3 t) from by
      unfold Dat.leavesExact; rw [show cfg2.idle 3 (cfg2.grid.coords t) = false from rfl],
    show (dat2 V c).leavesExact 4 t = owns (c : Thread nD τ) (st2_4 t) fullShare ((dat2 V c).after 4 t) from by
      unfold Dat.leavesExact; rw [show cfg2.idle 4 (cfg2.grid.coords t) = false from rfl],
    show (dat2 V c).leavesExact 5 t = owns (c : Thread nD τ) (st2_5 t) fullShare ((dat2 V c).after 5 t) from by
      unfold Dat.leavesExact; rw [show cfg2.idle 5 (cfg2.grid.coords t) = false from live2_5 t],
    after2_0, after2_1, after2_2, after2_3, after2_4, after2_5]
  have hi : cfg2.idle 6 (cfg2.grid.coords t) = !decide (t.val % 8 = 0) := idle2_6 t
  by_cases h0 : t.val % 8 = 0
  · rw [show (dat2 V c).leavesExact 6 t = owns (c : Thread nD τ) (st2_6 t) fullShare ((dat2 V c).after 6 t) from by
      unfold Dat.leavesExact; rw [hi, decide_eq_true h0]; rfl, after2_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid2.coords t) _ _ _ _ _ _ _ _ _ _ _ _ _ _ ((hcond2 t).mpr h0) (iblk2 V c 0 t) (iblk2 V c 1 t) (iblk2 V c 2 t) (iblk2 V c 3 t) (iblk2 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hb : ∀ d, (dat2 V c).before 6 t d = codesOut (iblk2 V c 2 t) (iblk2 V c 4 t) := before2_6 V c t.val t.isLt h0
    have hl : (owns (c : Thread nD τ) (st2_6 t) fullShare (codesOut (iblk2 V c 2 t) (iblk2 V c 4 t)) : sProp 𝕄) ⊢ (dat2 V c).leavesExact 6 t := by
      by_cases h7 : t.val % 8 = 7
      · rw [show (dat2 V c).leavesExact 6 t = owns (c : Thread nD τ) (st2_6 t) fullShare ((dat2 V c).after 6 t) from by
          unfold Dat.leavesExact; rw [hi, decide_eq_false h0, (flush2_6 t).mpr h7]; rfl, after2_6]
      · rw [Dat.leavesExact_idle (dat2 V c) 6 t (by rw [hi, decide_eq_false h0]; rfl) (by rw [Bool.eq_false_iff, Ne, flush2_6]; exact h7)]
        simp only [hb]
        iintro H
        iexists (codesOut (iblk2 V c 2 t) (iblk2 V c 4 t))
        iexact H
    simp only [hb]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid2.coords t) _ _ _ _ _ _ _ _ _ _ _ _ _ _ (fun h => h0 ((hcond2 t).mp h)) (iblk2 V c 0 t) (iblk2 V c 1 t) (iblk2 V c 2 t) (iblk2 V c 3 t) (iblk2 V c 4 t) (codesOut (iblk2 V c 2 t) (iblk2 V c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply hl; iexact H6

theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end

end
-- ==== Proof.Run.lean ====
/- The whole kernel: its three calls and the host operations between them, run from any memory; what every buffer holds
   at the end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Amax
public import proofs.«01_k».proof.Proof.Quant
public import proofs.«01_k».proof.Proof.Matmul
public import Idealize.ShloMosaic.Lib.Pipeline.FrameBody
public import Idealize.ShloMosaic.Lib.Pipeline.RegionArraysS
public import Idealize.ShloMosaic.Lib.Claim
public import Idealize.ShloMosaic.Lib.Ring
public import Idealize.ShloMosaic.Lib.Tactic
public import Idealize.ShloMosaic.Lib.WordCmp

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the items of @main -/

/-- At launch. -/
def W0 (c : Dev nD) : Valuation τ sig (Elt F) := fun b => m (c, b)
/-- After the first call. -/
def W1 (c : Dev nD) : Valuation τ sig (Elt F) := Pipeline.afterRegion (dat0 (W0 m) c) (W0 m c)
/-- After dy's reshape. -/
def W2 (c : Dev nD) : Valuation τ sig (Elt F) := StableHlo.after hostOps1 (W1 m c)
/-- After the second call. -/
def W3 (c : Dev nD) : Valuation τ sig (Elt F) := Pipeline.afterRegion (dat1 (W2 m) c) (W2 m c)
/-- After the third call. -/
def W4 (c : Dev nD) : Valuation τ sig (Elt F) := Pipeline.afterRegion (dat2 (W3 m) c) (W3 m c)
/-- After the results' reshapes. -/
def W5 (c : Dev nD) : Valuation τ sig (Elt F) := StableHlo.after hostOps3 (W4 m c)

/-- The proof data of the three calls. -/
def pdats : (p : Fin 3) → (c : Dev nD) → Dat τ (Elt F) Unit ℕ (UR sig nD τ) ℕ (cfgs p) c
  | ⟨0, _⟩ => fun c => dat0 (W0 m) c
  | ⟨1, _⟩ => fun c => dat1 (W2 m) c
  | ⟨2, _⟩ => fun c => dat2 (W3 m) c

/-- The one index, at every cell of a TensorCore. -/
def L : GSem nD τ sig → Finset Unit := fun g => if g.1.2 = .tc then {()} else ∅
def lv : GSem nD τ sig → Unit → ℕ := fun _ _ => 0

/-- What a thread holds beside its unscoped buffers: it owes nothing, and its generator register is at some state. -/
def Rest (c : Dev nD) : sProp 𝕄 :=
  iprop((∃ Wd, owes (c : Thread nD τ) (0 : CellTallies nD τ sig Unit) Wd) ∗ (∃ r, prngReg c r) ∗ BI.emp)

theorem cut (p : Fin 3) : Pipeline.LevelCut (nD := nD) (τ := τ) (Val := Elt F) (pcfgs (F := F)) adm () L lv p (fun _ => 0) (fun _ => 0) where
  hι _ _ _ := by unfold L; rw [if_pos rfl]; exact Finset.mem_singleton_self _
  hιb _ _ _ := le_refl _
  hD _ _ _ h := absurd h (lt_irrefl _)

theorem phi_in0 (V : Dev nD → Valuation τ sig (Elt F)) (c : Dev nD) :
    iprop(Pipeline.scopedRest spec0 c ∗ ∃ r, prngReg c r) ⊢ (dat0 V c).Φ 0 := by
  rw [scoped_eq]; exact .rfl

theorem phi_out0 (V : Dev nD → Valuation τ sig (Elt F)) (c : Dev nD) :
    (dat0 V c).Φ (Fin.last cfg0.N) ⊢ iprop(Pipeline.scopedRest spec0 c ∗ ∃ r, prngReg c r) := by
  rw [scoped_eq]
  show Phi0 V c cfg0.N (le_refl _) ⊢ _
  have h : ∀ n (hn : n ≤ cfg0.N), Phi0 V c n hn
      ⊢ (iprop(((∃ d, owns (c : Thread nD τ) scM fullShare d) ∗ others c) ∗ ∃ r, prngReg c r) : sProp 𝕄) := by
    intro n hn
    cases n with
    | zero => exact .rfl
    | succ n =>
      show iprop((owns (c : Thread nD τ) scM fullShare (acc V c n hn) ∗ others c) ∗ ∃ r, prngReg c r) ⊢ _
      iintro ⟨⟨H, Ho⟩, Hp⟩
      isplitl [H Ho]
      · isplitl [H]
        · iexists _; iexact H
        · iexact Ho
      · iexact Hp
  exact h _ _

/-- The first call, entered with the buffers as launched. -/
def R0 : RegionSeg (pcfgs (F := F)) adm (pdats m) () defs₀ Variants.none L lv 0 :=
  Pipeline.RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl (fun c => (body_obligation0 (W0 m) c).loose)
    (fun _ _ => rfl) (fun _ => rfl) (fun c => (dat0 (W0 m) c).share_full fun _ => rfl) (fun c => phi_in0 (W0 m) c) (fun c => phi_out0 (W0 m) c)
    (fun _ => 0) (cut 0) (fun _ => BI.emp) (W0 m) (fun c w => (show (dat0 (W0 m) c).arrAt w 0 = (dat0 (W0 m) c).A w from rfl).trans (A_eq0 (W0 m) c w))
/-- The second call. -/
def R1 : RegionSeg (pcfgs (F := F)) adm (pdats m) () defs₀ Variants.none L lv 1 :=
  Pipeline.RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl (fun c => (body_obligation1 (W2 m) c).loose)
    (fun _ _ => rfl) (fun _ => rfl) (fun c => (dat1 (W2 m) c).share_full fun _ => rfl) (fun _ => .rfl) (fun _ => .rfl)
    (fun _ => 0) (cut 1) (fun _ => BI.emp) (W2 m) (fun c w => (show (dat1 (W2 m) c).arrAt w 0 = (dat1 (W2 m) c).A w from rfl).trans (A_eq1 (W2 m) c w))
/-- The third call. -/
def R2 : RegionSeg (pcfgs (F := F)) adm (pdats m) () defs₀ Variants.none L lv 2 :=
  Pipeline.RegionSeg.ofHeldIn (pcfgs (F := F)) adm (pdats m) () defs₀ Variants.none L lv 2 (fun _ => 0) (Pipeline.ucRefs τ sig)
    (fun c => iprop(∃ r, prngReg c r)) (fun c => iprop(∃ r, prngReg c r)) launch2.toP rfl (fun c => (body_obligation2 (W3 m) c).loose)
    (fun _ _ => rfl) (fun _ => rfl) (fun c => (dat2 (W3 m) c).share_full fun _ => rfl) (fun _ => .rfl) (fun _ => .rfl)
    (fun _ => 0) (cut 2) (fun _ => BI.emp) (W3 m) (fun c w => (show (dat2 (W3 m) c).arrAt w 0 = (dat2 (W3 m) c).A w from rfl).trans (A_eq2 (W3 m) c w))

/-- dy's reshape, on the unscoped buffers. -/
def S1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) Rest
/-- The results' reshapes. -/
def S3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) Rest

/-- @main's items. -/
def items : List (Seg (pcfgs (F := F)) adm (pdats m) () defs₀ Variants.none L lv) :=
  [.region (R0 m), .host (S1 m), .region (R1 m), .region (R2 m), .host (S3 m)]

theorem arrs_sub0 : Pipeline.arrRefs (pcfgs (F := F) 0).spec ⊆ Pipeline.ucRefs τ sig := Pipeline.arrRefs_sub_ucRefs _ winFacts0.arr_unscoped
theorem arrs_sub1 : Pipeline.arrRefs (pcfgs (F := F) 1).spec ⊆ Pipeline.ucRefs τ sig := Pipeline.arrRefs_sub_ucRefs _ winFacts1.arr_unscoped
theorem arrs_sub2 : Pipeline.arrRefs (pcfgs (F := F) 2).spec ⊆ Pipeline.ucRefs τ sig := Pipeline.arrRefs_sub_ucRefs _ winFacts2.arr_unscoped

theorem pre0 (c : Dev nD) : iprop(StableHlo.held (c : Thread nD τ) (Pipeline.ucRefs τ sig) (W0 m c) ∗ Rest c) ⊢ (R0 m).pre c := by
  unfold R0 Rest; exact Pipeline.RegionSeg.ofHeldIn_pre (pcs := pcfgs (F := F)) (a := adm) (pdats := pdats m) (ι := ()) (defs₀ := defs₀) (𝒱₀ := Variants.none)
    (L := L) (lv := lv) (p := 0) (D := fun _ => 0) (X := fun c => iprop(∃ r, prngReg c r)) (Y := fun c => iprop(∃ r, prngReg c r))
    (R := fun _ => BI.emp) (W := W0 m) (b := fun _ => 0) (hcut := cut 0) (arrs_sub0 (F := F)) c
theorem post0 (c : Dev nD) : (R0 m).post c ⊢ iprop(StableHlo.held (c : Thread nD τ) (Pipeline.ucRefs τ sig) (W1 m c) ∗ Rest c) := by
  unfold R0 Rest W1; exact Pipeline.RegionSeg.ofHeldIn_post (pcs := pcfgs (F := F)) (a := adm) (pdats := pdats m) (ι := ()) (defs₀ := defs₀) (𝒱₀ := Variants.none)
    (L := L) (lv := lv) (p := 0) (D := fun _ => 0) (X := fun c => iprop(∃ r, prngReg c r)) (Y := fun c => iprop(∃ r, prngReg c r))
    (R := fun _ => BI.emp) (W := W0 m) (b := fun _ => 0) (hcut := cut 0) (arrs_sub0 (F := F)) c
theorem pre1 (c : Dev nD) : iprop(StableHlo.held (c : Thread nD τ) (Pipeline.ucRefs τ sig) (W2 m c) ∗ Rest c) ⊢ (R1 m).pre c := by
  unfold R1 Rest; exact Pipeline.RegionSeg.ofHeldIn_pre (pcs := pcfgs (F := F)) (a := adm) (pdats := pdats m) (ι := ()) (defs₀ := defs₀) (𝒱₀ := Variants.none)
    (L := L) (lv := lv) (p := 1) (D := fun _ => 0) (X := fun c => iprop(∃ r, prngReg c r)) (Y := fun c => iprop(∃ r, prngReg c r))
    (R := fun _ => BI.emp) (W := W2 m) (b := fun _ => 0) (hcut := cut 1) (arrs_sub1 (F := F)) c
theorem post1 (c : Dev nD) : (R1 m).post c ⊢ iprop(StableHlo.held (c : Thread nD τ) (Pipeline.ucRefs τ sig) (W3 m c) ∗ Rest c) := by
  unfold R1 Rest W3; exact Pipeline.RegionSeg.ofHeldIn_post (pcs := pcfgs (F := F)) (a := adm) (pdats := pdats m) (ι := ()) (defs₀ := defs₀) (𝒱₀ := Variants.none)
    (L := L) (lv := lv) (p := 1) (D := fun _ => 0) (X := fun c => iprop(∃ r, prngReg c r)) (Y := fun c => iprop(∃ r, prngReg c r))
    (R := fun _ => BI.emp) (W := W2 m) (b := fun _ => 0) (hcut := cut 1) (arrs_sub1 (F := F)) c
theorem pre2 (c : Dev nD) : iprop(StableHlo.held (c : Thread nD τ) (Pipeline.ucRefs τ sig) (W3 m c) ∗ Rest c) ⊢ (R2 m).pre c := by
  unfold R2 Rest; exact Pipeline.RegionSeg.ofHeldIn_pre (pcs := pcfgs (F := F)) (a := adm) (pdats := pdats m) (ι := ()) (defs₀ := defs₀) (𝒱₀ := Variants.none)
    (L := L) (lv := lv) (p := 2) (D := fun _ => 0) (X := fun c => iprop(∃ r, prngReg c r)) (Y := fun c => iprop(∃ r, prngReg c r))
    (R := fun _ => BI.emp) (W := W3 m) (b := fun _ => 0) (hcut := cut 2) (arrs_sub2 (F := F)) c
theorem post2 (c : Dev nD) : (R2 m).post c ⊢ iprop(StableHlo.held (c : Thread nD τ) (Pipeline.ucRefs τ sig) (W4 m c) ∗ Rest c) := by
  unfold R2 Rest W4; exact Pipeline.RegionSeg.ofHeldIn_post (pcs := pcfgs (F := F)) (a := adm) (pdats := pdats m) (ι := ()) (defs₀ := defs₀) (𝒱₀ := Variants.none)
    (L := L) (lv := lv) (p := 2) (D := fun _ => 0) (X := fun c => iprop(∃ r, prngReg c r)) (Y := fun c => iprop(∃ r, prngReg c r))
    (R := fun _ => BI.emp) (W := W3 m) (b := fun _ => 0) (hcut := cut 2) (arrs_sub2 (F := F)) c

/-- What the launch makes of the pipelines' ghost state. -/
def u₀ : UR sig nD τ := initOf (Pipeline.cells (Pipeline.pin (pcfgs (F := F)) adm) cellOf_inj) (Pipeline.launchToks (Pipeline.pin (pcfgs (F := F)) adm) cellOf_inj)

set_option backward.isDefEq.respectTransparency.types false in
/-- From any memory with zero counters every weakly fair execution of @main terminates, and every final state holds every
    unscoped buffer at `W5` with every semaphore counter at zero. -/
theorem run_main (ρ : Dev nD → PrngReg) : θ_run defs (onTc (τ := τ) (main (F := F))) ⟨m, fun _ => 0, ρ⟩
    (fun r => (∀ c : Dev nD, ∀ b : Ref sig .tc, b.isScoped = false → r.2.mem ((c.tc : Thread nD τ).loc b) = W5 m c b) ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0)
    (fun g hg => by unfold L; rw [if_neg hg]) (fun _ => BI.emp) (u₀ (F := F)) ?_
    (T₀ := fun c => iprop(StableHlo.held (c : Thread nD τ) (Pipeline.ucRefs τ sig) (W0 m c) ∗ Rest c))
    (Tₙ := fun c => StableHlo.held (c : Thread nD τ) (Pipeline.ucRefs τ sig) (W5 m c))
    (hch := fun c => ⟨pre0 m c, post0 m c, pre1 m c, (post1 m c).trans (pre2 m c), post2 m c, ?_⟩)
    (hinit := ?_) (QY := fun c s => ∀ b : Ref sig .tc, b.isScoped = false → s.mem ((c.tc : Thread nD τ).loc b) = W5 m c b)
    (hfin := fun c s' => ?_) (hQ := fun _ h hz => ⟨h, funext fun g => hz g (.inr (regions_no_unscoped g.2))⟩)
  · iintro Hu
    imodintro
    isplitl [Hu]
    · iapply (show (ownU (u₀ (F := F)) : sProp 𝕄) ⊢ BI.own (emb₁ (u₀ (F := F))) from .rfl); iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W5 m c) ∗ Rest c) ⊢ _
    unfold Rest
    iintro ⟨H, HO, -, -⟩
    isplitl [H]; · iexact H
    iexact HO
  · refine Pipeline.initEach L lv fun c => ?_
    rw [show unscopedBufs c (fun b => m ((c.tc : Thread nD τ).loc b)) = StableHlo.held (c : Thread nD τ) (Pipeline.ucRefs τ sig) (W0 m c) from
      Pipeline.unscopedBufs_held (Ix := Unit) (Name := ℕ) (U := UR sig nD τ) (Lvl := ℕ) c (W0 m c)]
    unfold Rest
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by
        show ¬ (b.isScoped = true); rw [hb]; exact Bool.false_ne_true⟩)
    · iexact HSI

/-! ## What no item writes -/

theorem W1_of (c : Dev nD) (r : Ref sig .tc) (h : ∀ w, Pipeline.arrRef spec0 w = r → (cfg0.win w).isOut = false) : W1 m c r = W0 m c r :=
  Pipeline.afterRegion_keeps _ _ winFacts0.arr_inj (A_eq0 (W0 m) c) r h
theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : ∀ w, Pipeline.arrRef spec1 w = r → (cfg1.win w).isOut = false) : W3 m c r = W2 m c r :=
  Pipeline.afterRegion_keeps _ _ winFacts1.arr_inj (A_eq1 (W2 m) c) r h
theorem W4_of (c : Dev nD) (r : Ref sig .tc) (h : ∀ w, Pipeline.arrRef spec2 w = r → (cfg2.win w).isOut = false) : W4 m c r = W3 m c r :=
  Pipeline.afterRegion_keeps _ _ winFacts2.arr_inj (A_eq2 (W3 m) c) r h
theorem W5_of (c : Dev nD) (r : Ref sig .tc) (h : r ∉ hostOps3_W) : W5 m c r = W4 m c r :=
  StableHlo.after_of_writes_sub hostOps3 _ hostOps3_writes h

theorem W5_arg0 (c : Dev nD) : W5 m c main_arg0 = m ((c.tc : Thread nD τ).loc main_arg0) :=
  (W5_of m c main_arg0 (by decide)).trans <| (W4_of m c main_arg0 (by decide)).trans <| (W3_of m c main_arg0 (by decide)).trans <|
    (W2_of m c main_arg0 (by decide)).trans <| (W1_of m c main_arg0 (by decide)).trans rfl
theorem W5_arg1 (c : Dev nD) : W5 m c main_arg1 = m ((c.tc : Thread nD τ).loc main_arg1) :=
  (W5_of m c main_arg1 (by decide)).trans <| (W4_of m c main_arg1 (by decide)).trans <| (W3_of m c main_arg1 (by decide)).trans <|
    (W2_of m c main_arg1 (by decide)).trans <| (W1_of m c main_arg1 (by decide)).trans rfl

/-- The program's frame: it terminates, leaves its arguments as launched and every semaphore counter at zero. -/
theorem frame (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun _ h => ⟨fun c => ⟨(h.1 c main_arg0 rfl).trans (W5_arg0 m c), (h.1 c main_arg1 rfl).trans (W5_arg1 m c)⟩, h.2⟩) (run_main m ρ)

end Cert.KernelIdeal.Hand

end

end
-- ==== Proof.Same.lean ====
/- The kernel as launched and the program read at ideal floats are one program: the same signature, the same bodies, the
   same @main. -/
module

public import proofs.«01_k».proof.Proof.Gen.Kernel
public import proofs.«01_k».proof.Proof.Gen.KernelIdeal
public import Idealize.ShloMosaic.Lib.Claim

@[expose] public section

noncomputable section

namespace Cert.Proof

open Idealize.ShloMosaic Idealize.SL.Sem

variable {F : FTy → Type} [FloatOps F]

theorem body0_eq : @Cert.Kernel.cc0_w_amax F _ Cert.Kernel.Gen.facts = @Cert.KernelIdeal.cc0_w_amax F _ Cert.KernelIdeal.Gen.facts := by
  funext t a1 h1 a2 h2 a3 h3 a4 h4
  rfl
theorem body1_eq : @Cert.Kernel.cc1_dy_quant F _ Cert.Kernel.Gen.facts = @Cert.KernelIdeal.cc1_dy_quant F _ Cert.KernelIdeal.Gen.facts := by
  funext t a1 h1 a2 h2 a3 h3
  rfl
theorem body2_eq : @Cert.Kernel.cc2_dgrad F _ Cert.Kernel.Gen.facts = @Cert.KernelIdeal.cc2_dgrad F _ Cert.KernelIdeal.Gen.facts := by
  delta Cert.Kernel.cc2_dgrad Cert.KernelIdeal.cc2_dgrad
  rfl

theorem defs₀_eq : (Cert.Kernel.defs₀ (F := F)) = (Cert.KernelIdeal.defs₀ (F := F)) := by
  unfold Cert.Kernel.defs₀ Cert.KernelIdeal.defs₀
  refine congrArg Defs.onTc ?_
  funext l a
  match l, a with
  | ⟨0, _⟩, (t, s) => exact congrFun (congrFun (congrFun (congrFun (congrFun (congrFun (congrFun (congrFun (congrFun body0_eq _) _) _) _) _) _) _) _) _
  | ⟨1, _⟩, (t, s) => exact congrFun (congrFun (congrFun (congrFun (congrFun (congrFun (congrFun body1_eq _) _) _) _) _) _) _
  | ⟨2, _⟩, (t, s) => exact congrFun (congrFun (congrFun (congrFun (congrFun (congrFun (congrFun (congrFun (congrFun (congrFun (congrFun (congrFun (congrFun (congrFun (congrFun body2_eq _) _) _) _) _) _) _) _) _) _) _) _) _) _) _

theorem defs_eq : (Cert.Kernel.defs (F := F)) = (Cert.KernelIdeal.defs (F := F)) := by
  unfold Cert.Kernel.defs Cert.KernelIdeal.defs
  exact congrArg (Pipeline.defs (Cert.KernelIdeal.pcfgs (F := F))) defs₀_eq

theorem main_eq : (Cert.Kernel.main (F := F)) = (Cert.KernelIdeal.main (F := F)) := rfl

end Cert.Proof

end

end
-- ==== Proof.Exponent.lean ====
/- The power-of-two scales, one number at a time, at ideal floats: the kernel's exponent field (a search over thresholds)
   and the scales it builds from its bits, against the reference's `exp2 (floor (log x / log 2) + 1)`. -/
module

public import Idealize.ShloMosaic.PureOps.Ideal
public import Idealize.ShloMosaic.PureOps.Ideal.Laws
public import Idealize.ShloMosaic.Lib.ValueIdx

@[expose] public section

noncomputable section

namespace Cert.Scale

open Idealize.ShloMosaic

/-! ## The reference's scales -/

/-- The exponent of the scale of a row or matrix whose greatest magnitude is `a`, `r` being one over the greatest code. -/
def expo (r a : EReal) : EReal :=
  if a = 0 then 0 else Ideal.liftRound Int.floor (Ideal.div (Ideal.log (a * r)) (Ideal.log (2 : ℝ))) + 1
/-- The scale. -/
def scale (r a : EReal) : EReal := Ideal.exp2 (expo r a)
/-- One over the scale. -/
def inv (r a : EReal) : EReal := Ideal.exp2 (0 - expo r a)

/-- The greatest magnitude `a` is zero, or `a` times `r` is at least the least normal float and below `2 ^ 126`. -/
def InRange (r a : EReal) : Prop :=
  a = 0 ∨ (((2 : ℝ) ^ (-126 : ℤ) : ℝ) : EReal) ≤ a * r ∧ a * r < (((2 : ℝ) ^ (126 : ℤ) : ℝ) : EReal)

/-! ## The kernel's -/

/-- The float whose bits are `f` shifted to the exponent field. -/
def thr (f : BitVec 32) : EReal := Ideal.ofBits .f32 (f <<< 23)
/-- One step of the search. -/
def keep (x : EReal) (f s : BitVec 32) : BitVec 32 := if thr (f + s) ≤ x then f + s else f
/-- The exponent field of `x`. -/
def field (x : EReal) : BitVec 32 :=
  keep x (keep x (keep x (keep x (keep x (keep x (keep x (keep x 0#32 128#32) 64#32) 32#32) 16#32) 8#32) 4#32) 2#32) 1#32
/-- The exponent of the scale from the field. -/
def fexp (f : BitVec 32) : BitVec 32 := if f = 0#32 then 0#32 else f - 126#32

theorem thr_zero : thr 0#32 = 0 := by
  simp [thr, Ideal.ofBits, Ideal.ieee]

theorem extract_field (j : ℕ) (h : j < 256) : ((BitVec.ofNat 32 j <<< 23).extractLsb' 23 8).toNat = j := by
  interval_cases j <;> rfl
theorem extract_frac (j : ℕ) (h : j < 256) : ((BitVec.ofNat 32 j <<< 23).extractLsb' 0 23).toNat = 0 := by
  interval_cases j <;> rfl
theorem extract_sign (j : ℕ) (h : j < 256) : (BitVec.ofNat 32 j <<< 23).extractLsb' 31 1 = 0#1 := by
  interval_cases j <;> rfl

theorem thr_normal (j : ℕ) (h0 : 1 ≤ j) (h : j ≤ 254) : thr (BitVec.ofNat 32 j) = (((2 : ℝ) ^ ((j : ℤ) - 127) : ℝ) : EReal) := by
  unfold thr Ideal.ofBits Ideal.ieee
  simp only [show (8 + 23 : ℕ) = 31 from rfl, extract_field j (by omega), extract_frac j (by omega), extract_sign j (by omega)]
  rw [if_neg (by omega), if_neg (by omega)]
  congr 1
  rw [show (2 : ℝ) ^ ((j : ℤ) - 127) = (2 : ℝ) ^ (23 : ℤ) * (2 : ℝ) ^ ((j : ℤ) - (2 ^ (8 - 1) - 1 : ℤ) - (23 : ℕ)) from by
    rw [← zpow_add₀ (two_ne_zero)]; congr 1; push_cast; ring]
  norm_num

theorem thr_top : thr 255#32 = ⊤ := by
  simp [thr, Ideal.ofBits, Ideal.ieee]

theorem keep_nat (x : EReal) (k f s : ℕ) (H : ∀ j, j ≤ 255 → (thr (BitVec.ofNat 32 j) ≤ x ↔ j ≤ k)) (hf : f + 2 * s ≤ 256) (hs : 1 ≤ s)
    (h1 : f ≤ k) (h2 : k < f + 2 * s) :
    ∃ f', keep x (BitVec.ofNat 32 f) (BitVec.ofNat 32 s) = BitVec.ofNat 32 f' ∧ f' ≤ k ∧ k < f' + s ∧ f' + s ≤ 256 := by
  have e : BitVec.ofNat 32 f + BitVec.ofNat 32 s = BitVec.ofNat 32 (f + s) := by rw [BitVec.ofNat_add]
  unfold keep
  rw [e]
  by_cases h : f + s ≤ k
  · exact ⟨f + s, if_pos ((H _ (by omega)).mpr h), h, by omega, by omega⟩
  · exact ⟨f, if_neg (fun h' => h ((H _ (by omega)).mp h')), h1, by omega, by omega⟩

/-- The search finds the greatest threshold at most `x`. -/
theorem field_eq (x : EReal) (k : ℕ) (hk : k ≤ 255) (H : ∀ j, j ≤ 255 → (thr (BitVec.ofNat 32 j) ≤ x ↔ j ≤ k)) :
    field x = BitVec.ofNat 32 k := by
  unfold field
  obtain ⟨f1, e1, a1, b1, c1⟩ := keep_nat x k 0 128 H (by omega) (by omega) (by omega) (by omega)
  obtain ⟨f2, e2, a2, b2, c2⟩ := keep_nat x k f1 64 H (by omega) (by omega) a1 (by omega)
  obtain ⟨f3, e3, a3, b3, c3⟩ := keep_nat x k f2 32 H (by omega) (by omega) a2 (by omega)
  obtain ⟨f4, e4, a4, b4, c4⟩ := keep_nat x k f3 16 H (by omega) (by omega) a3 (by omega)
  obtain ⟨f5, e5, a5, b5, c5⟩ := keep_nat x k f4 8 H (by omega) (by omega) a4 (by omega)
  obtain ⟨f6, e6, a6, b6, c6⟩ := keep_nat x k f5 4 H (by omega) (by omega) a5 (by omega)
  obtain ⟨f7, e7, a7, b7, c7⟩ := keep_nat x k f6 2 H (by omega) (by omega) a6 (by omega)
  obtain ⟨f8, e8, a8, b8, c8⟩ := keep_nat x k f7 1 H (by omega) (by omega) a7 (by omega)
  rw [e1, e2, e3, e4, e5, e6, e7, e8, show f8 = k by omega]

/-- A real between two consecutive powers of two is at least exactly the thresholds up to the lower one. -/
theorem thr_iff (x : ℝ) (k : ℕ) (h1 : 1 ≤ k) (hk : k ≤ 253) (hl : (2 : ℝ) ^ ((k : ℤ) - 127) ≤ x) (hu : x < (2 : ℝ) ^ ((k : ℤ) - 126)) :
    ∀ j, j ≤ 255 → (thr (BitVec.ofNat 32 j) ≤ (x : EReal) ↔ j ≤ k) := by
  intro j hj
  have hx : 0 < x := lt_of_lt_of_le (by positivity) hl
  rcases Nat.eq_zero_or_pos j with rfl | hj0
  · simp only [Nat.zero_le, iff_true]
    rw [show BitVec.ofNat 32 0 = 0#32 from rfl, thr_zero]
    exact_mod_cast hx.le
  rcases Nat.lt_or_ge j 255 with hj1 | hj1
  · rw [thr_normal j hj0 (by omega), EReal.coe_le_coe_iff]
    constructor
    · intro h
      by_contra hc
      have : (2 : ℝ) ^ ((k : ℤ) - 126) ≤ (2 : ℝ) ^ ((j : ℤ) - 127) := zpow_le_zpow_right₀ one_le_two (by omega)
      linarith
    · intro h
      exact (zpow_le_zpow_right₀ one_le_two (by omega)).trans hl
  · obtain rfl : j = 255 := by omega
    rw [show BitVec.ofNat 32 255 = 255#32 from rfl, thr_top]
    constructor
    · intro h; exact absurd h (not_le.mpr (EReal.coe_lt_top x))
    · intro h; omega

theorem thr_iff_zero : ∀ j, j ≤ 255 → (thr (BitVec.ofNat 32 j) ≤ (0 : EReal) ↔ j ≤ 0) := by
  intro j hj
  rcases Nat.eq_zero_or_pos j with rfl | hj0
  · rw [show BitVec.ofNat 32 0 = 0#32 from rfl, thr_zero]; simp
  rcases Nat.lt_or_ge j 255 with hj1 | hj1
  · rw [thr_normal j hj0 (by omega)]
    have : (0 : ℝ) < (2 : ℝ) ^ ((j : ℤ) - 127) := by positivity
    constructor
    · intro h
      exact absurd (EReal.coe_le_coe_iff.mp (by exact_mod_cast h)) (not_le.mpr this)
    · intro h; omega
  · obtain rfl : j = 255 := by omega
    rw [show BitVec.ofNat 32 255 = 255#32 from rfl, thr_top]
    constructor
    · intro h; exact absurd h (by simp)
    · intro h; omega

theorem exp2_int (n : ℤ) : Ideal.exp2 (((n : ℝ)) : EReal) = (((2 : ℝ) ^ n : ℝ) : EReal) := by
  rw [Ideal.exp2_coe]; congr 1
  exact Real.rpow_intCast 2 n

/-- The reference's exponent of a real between two consecutive powers of two. -/
theorem expo_eq (a r : ℝ) (n : ℤ) (ha : a ≠ 0) (hl : (2 : ℝ) ^ n ≤ a * r) (hu : a * r < (2 : ℝ) ^ (n + 1)) :
    expo (r : EReal) (a : EReal) = (((n + 1 : ℤ) : ℝ) : EReal) := by
  have hx : 0 < a * r := lt_of_lt_of_le (by positivity) hl
  unfold expo
  rw [if_neg (by exact_mod_cast ha), ← EReal.coe_mul, Ideal.log_coe, Ideal.log_coe, if_neg (not_le.mpr hx), if_neg (by norm_num)]
  have hlog2 : (0 : ℝ) < Real.log 2 := Real.log_pos (by norm_num)
  have hfl : ⌊Real.log (a * r) / Real.log 2⌋ = n := by
    rw [Int.floor_eq_iff]
    constructor
    · rw [le_div_iff₀ hlog2, ← Real.log_zpow]
      exact Real.log_le_log (by positivity) hl
    · rw [div_lt_iff₀ hlog2, show ((n : ℝ) + 1) = ((n + 1 : ℤ) : ℝ) by push_cast; ring, ← Real.log_zpow]
      exact Real.log_lt_log hx hu
  have hdiv : Ideal.div (((Real.log (a * r) : ℝ)) : EReal) ((Real.log 2 : ℝ) : EReal) = ((Real.log (a * r) / Real.log 2 : ℝ) : EReal) := by
    unfold Ideal.div
    rw [if_neg (by exact_mod_cast hlog2.ne'), ← EReal.coe_inv, ← EReal.coe_mul, div_eq_mul_inv]
  rw [hdiv, show Ideal.liftRound Int.floor ((Real.log (a * r) / Real.log 2 : ℝ) : EReal) = (((⌊Real.log (a * r) / Real.log 2⌋ : ℤ) : ℝ) : EReal) from rfl, hfl]
  rw [← EReal.coe_one, ← EReal.coe_add]; push_cast; rfl

theorem fexp_zero : 127#32 + fexp 0#32 = BitVec.ofNat 32 127 ∧ 127#32 - fexp 0#32 = BitVec.ofNat 32 127 := by decide
theorem fexp_pos (k : ℕ) (h1 : 1 ≤ k) (hk : k ≤ 252) : 127#32 + fexp (BitVec.ofNat 32 k) = BitVec.ofNat 32 (k + 1)
    ∧ 127#32 - fexp (BitVec.ofNat 32 k) = BitVec.ofNat 32 (253 - k) := by
  interval_cases k <;> decide

/-- In range the kernel's scale and its inverse are the reference's. -/
theorem scales_eq (r : ℝ) (hr0 : 0 < r) (a : EReal) (ha : InRange (r : EReal) a) :
    thr (127#32 + fexp (field (a * r))) = scale r a ∧ thr (127#32 - fexp (field (a * r))) = inv r a := by
  rcases ha with rfl | ⟨hlo, hhi⟩
  · rw [zero_mul, field_eq 0 0 (by omega) thr_iff_zero, show BitVec.ofNat 32 0 = 0#32 from rfl, fexp_zero.1, fexp_zero.2,
      thr_normal 127 (by omega) (by omega)]
    unfold scale inv expo
    rw [if_pos rfl, show (0 : EReal) - 0 = (((0 : ℤ) : ℝ) : EReal) by simp, show (0 : EReal) = (((0 : ℤ) : ℝ) : EReal) by simp, exp2_int]
    norm_num
  have hat : a ≠ ⊤ := fun h => by
    rw [h, EReal.top_mul_coe_of_pos hr0] at hhi; exact absurd hhi not_top_lt
  have hab : a ≠ ⊥ := fun h => by
    rw [h, EReal.bot_mul_coe_of_pos hr0] at hlo; exact absurd hlo (not_le.mpr (EReal.bot_lt_coe _))
  lift a to ℝ using ⟨hat, hab⟩
  rw [← EReal.coe_mul, EReal.coe_le_coe_iff] at hlo
  rw [← EReal.coe_mul, EReal.coe_lt_coe_iff] at hhi
  have hx : 0 < a * r := lt_of_lt_of_le (by positivity) hlo
  have ha0 : a ≠ 0 := by rintro rfl; simp at hx
  obtain ⟨n, hl, hu⟩ := exists_mem_Ico_zpow hx (one_lt_two (α := ℝ))
  have hn1 : -126 ≤ n := by
    by_contra hc
    have : (2 : ℝ) ^ (n + 1) ≤ (2 : ℝ) ^ (-126 : ℤ) := zpow_le_zpow_right₀ one_le_two (by omega)
    linarith
  have hn2 : n ≤ 125 := by
    by_contra hc
    have : (2 : ℝ) ^ (126 : ℤ) ≤ (2 : ℝ) ^ n := zpow_le_zpow_right₀ one_le_two (by omega)
    linarith
  obtain ⟨k, hk⟩ : ∃ k : ℕ, (k : ℤ) = n + 127 := ⟨(n + 127).toNat, by omega⟩
  have hfield : field ((a : EReal) * r) = BitVec.ofNat 32 k := by
    rw [← EReal.coe_mul]
    exact field_eq _ k (by omega) (thr_iff _ k (by omega) (by omega) (by rw [hk, add_sub_cancel_right]; exact hl)
      (by rw [hk, show n + 127 - 126 = n + 1 by ring]; exact hu))
  obtain ⟨e1, e2⟩ := fexp_pos k (by omega) (by omega)
  rw [hfield, e1, e2, thr_normal _ (by omega) (by omega), thr_normal _ (by omega) (by omega)]
  unfold scale inv
  rw [expo_eq a r n ha0 hl hu, exp2_int, show (0 : EReal) - (((n + 1 : ℤ) : ℝ) : EReal) = (((-(n + 1) : ℤ) : ℝ) : EReal) by
    rw [zero_sub, ← EReal.coe_neg]; push_cast; rfl, exp2_int]
  constructor
  · congr 2; push_cast; omega
  · congr 2; push_cast [show k ≤ 253 by omega]; omega

end Cert.Scale

end

end
-- ==== Proof.Lanes.lean ====
/- The exponent search, the scales' exponent, magnitudes and clipping on whole vectors at ideal floats, read lane by lane. -/
module

public import proofs.«01_k».proof.Proof.Exponent
public import Idealize.ShloMosaic.Lib.Pointwise

@[expose] public section

noncomputable section

namespace Cert.Scale

open Idealize.ShloMosaic

/-- A magnitude. -/
def mag (x : EReal) : EReal := max x (-x)
/-- A value times the inverse scale, clipped to the codes' range. -/
def clip (lo hi x : EReal) : EReal := min hi (max lo x)

/-- One over the greatest e4m3 code, and over the greatest e5m2 code, as the programs print them. -/
def r4 : EReal := Ideal.ofBits .f32 0x3B124925#32
def r5 : EReal := Ideal.ofBits .f32 0x37924925#32
/-- The greatest codes and their opposites. -/
def hi4 : EReal := Ideal.ofBits .f32 0x43E00000#32
def lo4 : EReal := Ideal.ofBits .f32 0xC3E00000#32
def hi5 : EReal := Ideal.ofBits .f32 0x47600000#32
def lo5 : EReal := Ideal.ofBits .f32 0xC7600000#32

theorem hi4_bf16 : Ideal.ofBits .bf16 0x43E0#16 = hi4 := by
  unfold hi4; simp [Ideal.ofBits, Ideal.ieee, -EReal.coe_mul]; norm_num
theorem lo4_bf16 : Ideal.ofBits .bf16 0xC3E0#16 = lo4 := by
  unfold lo4; simp [Ideal.ofBits, Ideal.ieee, -EReal.coe_mul]; norm_num
theorem hi5_bf16 : Ideal.ofBits .bf16 0x4760#16 = hi5 := by
  unfold hi5; simp [Ideal.ofBits, Ideal.ieee, -EReal.coe_mul]; norm_num
theorem lo5_bf16 : Ideal.ofBits .bf16 0xC760#16 = lo5 := by
  unfold lo5; simp [Ideal.ofBits, Ideal.ieee, -EReal.coe_mul]; norm_num
theorem r4_real : ∃ r : ℝ, r4 = (r : EReal) ∧ 0 < r ∧ r ≤ (2 : ℝ) ^ (-8 : ℤ) := by
  refine ⟨9586981 * (2 : ℝ) ^ (-32 : ℤ), ?_, by positivity, by norm_num⟩
  unfold r4; simp [Ideal.ofBits, Ideal.ieee, -EReal.coe_mul]
theorem r5_real : ∃ r : ℝ, r5 = (r : EReal) ∧ 0 < r ∧ r ≤ (2 : ℝ) ^ (-8 : ℤ) := by
  refine ⟨9586981 * (2 : ℝ) ^ (-39 : ℤ), ?_, by positivity, by norm_num⟩
  unfold r5; simp [Ideal.ofBits, Ideal.ieee, -EReal.coe_mul]
theorem bot_bf16 : Ideal.ofBits .bf16 0xFF80#16 = ⊥ := by simp [Ideal.ofBits, Ideal.ieee]
theorem bot_f32 : Ideal.ofBits .f32 0xFF800000#32 = ⊥ := by simp [Ideal.ofBits, Ideal.ieee]

/-- One step of the search on every lane. -/
def keepV {S : Shape} (x : FVec Ideal S .f32) (f : IVec S 32) (s : BitVec 32) : IVec S 32 :=
  select (cmpf .oge x (bitcastToFloat .f32 (shli (addi f (broadcast S s)) (broadcast S 23#32)))) (addi f (broadcast S s)) f

theorem keepV_apply {S : Shape} (x : FVec Ideal S .f32) (f : IVec S 32) (s : BitVec 32) (i : S.Idx) :
    keepV x f s i = keep (x i) (f i) s := by
  show Scalar.select (BitVec.ofBool (decide (thr (f i + s) ≤ x i))) (f i + s) (f i) = _
  unfold keep
  by_cases h : thr (f i + s) ≤ x i <;> simp [h, Scalar.select]

/-- The whole search on every lane. -/
def fieldV {S : Shape} (x : FVec Ideal S .f32) : IVec S 32 :=
  keepV x (keepV x (keepV x (keepV x (keepV x (keepV x (keepV x (keepV x (broadcast S 0#32) 128#32) 64#32) 32#32) 16#32) 8#32) 4#32) 2#32) 1#32
theorem fieldV_apply {S : Shape} (x : FVec Ideal S .f32) (i : S.Idx) : fieldV x i = field (x i) := by
  unfold fieldV field
  simp only [keepV_apply]
  rfl

/-- The exponent of the scale on every lane. -/
def fexpV {S : Shape} (f : IVec S 32) : IVec S 32 :=
  select (cmpi .eq f (broadcast S 0#32)) (broadcast S 0#32) (subi f (broadcast S 126#32))
theorem fexpV_apply {S : Shape} (f : IVec S 32) (i : S.Idx) : fexpV f i = fexp (f i) := by
  show Scalar.select (BitVec.ofBool (f i == 0#32)) 0#32 (f i - 126#32) = _
  unfold fexp
  by_cases h : f i = 0#32
  · rw [if_pos h, show (f i == 0#32) = true from beq_iff_eq.mpr h]; rfl
  · rw [if_neg h, show (f i == 0#32) = false from beq_eq_false_iff_ne.mpr h]; rfl

/-- A row's greatest magnitude. -/
def rowMax {n : ℕ} (f : Fin n → EReal) : EReal := ⨆ k, mag (f k)

theorem fold_mag {n : ℕ} (f : Fin n → EReal) : (Finset.univ : Finset (Fin n)).fold max ⊥ (fun k => mag (f k)) = rowMax f := by
  refine eq_of_forall_ge_iff fun c => ?_
  rw [Finset.fold_max_le]
  simp [rowMax]

end Cert.Scale

end

end
-- ==== Proof.PayQuant.lean ====
/- What the body that quantises `dy` computes at ideal floats, element by element. -/
module

public import proofs.«01_k».proof.Proof.Quant
public import proofs.«01_k».proof.Proof.Lanes

@[expose] public section

noncomputable section

namespace Cert.KernelIdeal.Hand

open Idealize.ShloMosaic Cert.KernelIdeal Cert.KernelIdeal.Gen Cert.Scale

/-! ## The rows of `dy` -/

theorem k1_field (x : Vec Ideal S256x10240 .bf16) : k1_pay8 (k1_pay5 x) (k1_pay6 x) (k1_pay7 x) = fieldV (k1_pay5 x) := rfl
theorem k1_exp (x : Vec Ideal S256x10240 .bf16) : k1_pay1 (rowZero x) (rowExp x) 0#32 = fexpV (fieldV (k1_pay5 x)) := rfl

/-- The row maxima, as a column. -/
def topV (x : Vec Ideal S256x10240 .bf16) : FVec Ideal S256x1 .bf16 :=
  shapeCast S256x1 (multiReduction .maximumf [1] S256 (absf (k1_pay4 x)) 0xFF80#16 reduces_S256x10240_S256 (.inr rfl) rfl) shapeCasts_S256_S256x1
theorem topV_apply (x : Vec Ideal S256x10240 .bf16) (r : Fin 256) : topV x (ix2 r 0) = rowMax (fun k : Fin 10240 => x (ix2 r k)) := by
  rw [← fold_mag, ← bot_bf16]
  pointwise [topV, k1_pay4]
  rfl
/-- The column, one over the greatest code times it, along the lanes. -/
def lanesV (v : FVec Ideal S256x1 .bf16) : FVec Ideal S256x128 .f32 :=
  mulf (broadcastTo S256x128 (shapeCast S256x1 (extf .f32 v bitsLt_bf16_f32) shapeCasts_S256x1_S256x1) broadcasts_S256x1_S256x128)
    (broadcast S256x128 (Scalar.ofBits .f32 0x37924925#32))
theorem lanesV_apply (v : FVec Ideal S256x1 .bf16) (r : Fin 256) (l : Fin 128) : lanesV v (ix2 r l) = v (ix2 r 0) * r5 := by
  pointwise [lanesV]
  rfl
theorem k1_pay5_eq (x : Vec Ideal S256x10240 .bf16) : k1_pay5 x = lanesV (topV x) := rfl
theorem k1_amax (x : Vec Ideal S256x10240 .bf16) (r : Fin 256) (l : Fin 128) :
    k1_pay5 x (ix2 r l) = rowMax (fun k : Fin 10240 => x (ix2 r k)) * r5 := by
  rw [k1_pay5_eq, lanesV_apply, topV_apply]

theorem k1_scales (z : IVec S256x128 1) (e : IVec S256x128 32) (r : Fin 256) (l : Fin 1) :
    k1_pay2 (F := Ideal) z e 0#32 (ix2 r l) = thr (127#32 + k1_pay1 z e 0#32 (ix2 r 0)) := by
  pointwise [k1_pay2]
  rfl
theorem k1_codes (x : Vec Ideal S256x10240 .bf16) (z : IVec S256x128 1) (e : IVec S256x128 32) (r : Fin 256) (k : Fin 10240) :
    k1_pay3 (F := Ideal) x z e 0#32 (ix2 r k) = clip lo5 hi5 (x (ix2 r k) * thr (127#32 - k1_pay1 z e 0#32 (ix2 r 0))) := by
  rw [← hi5_bf16, ← lo5_bf16]
  pointwise [k1_pay3]
  rfl
theorem k1_read (x : Vec Ideal S256x10240 .bf16) (i : S256x10240.Idx) : k1_pay4 x i = x i := by
  pointwise [k1_pay4]

/-- A row's exponent. -/
theorem rowExp_apply (x : Vec Ideal S256x10240 .bf16) (r : Fin 256) :
    k1_pay1 (rowZero x) (rowExp x) 0#32 (ix2 r 0) = fexp (field (rowMax (fun k : Fin 10240 => x (ix2 r k)) * r5)) := by
  rw [k1_exp, fexpV_apply, fieldV_apply, k1_amax]

theorem rowScales_apply (x : Vec Ideal S256x10240 .bf16) (r : Fin 256) (l : Fin 1) :
    rowScales x (ix2 r l) = thr (127#32 + fexp (field (rowMax (fun k : Fin 10240 => x (ix2 r k)) * r5))) := by
  rw [rowScales, k1_scales, rowExp_apply]

theorem rowCodes_apply (x : Vec Ideal S256x10240 .bf16) (r : Fin 256) (k : Fin 10240) :
    rowCodes x (ix2 r k) = clip lo5 hi5 (x (ix2 r k) * thr (127#32 - fexp (field (rowMax (fun k : Fin 10240 => x (ix2 r k)) * r5)))) := by
  rw [rowCodes, k1_codes, rowExp_apply, k1_read]

end Cert.KernelIdeal.Hand

end

end
-- ==== Proof.ArrQuant.lean ====
/- The two arrays that the call quantising `dy` leaves, as functions of the array it reads. -/
module

public import proofs.«01_k».proof.Proof.PayQuant
public import Idealize.ShloMosaic.Lib.Pipeline.ValueKit

@[expose] public section

noncomputable section

namespace Cert.KernelIdeal.Hand

open Idealize.ShloMosaic Cert.KernelIdeal Cert.KernelIdeal.Gen Cert.Scale

/-- The search's exponent of a row's scale. -/
def rowE (A : Vec Ideal S4096x10240 .bf16) (r : Fin 4096) : BitVec 32 := fexp (field (rowMax (fun k : Fin 10240 => A (ix2 r k)) * r5))
/-- The codes of `dy`. -/
def dyCodes (A : Vec Ideal S4096x10240 .bf16) : Vec Ideal S4096x10240 .fp8e5m2 :=
  fun i => clip lo5 hi5 (A i * thr (127#32 - rowE A (i 0)))
/-- The scales of `dy`. -/
def dyScales (A : Vec Ideal S4096x10240 .bf16) : Vec Ideal S4096x1 .f32 := fun i => thr (127#32 + rowE A (i 0))

theorem hz2 : (![0, 0] : Fin 2 → Nat) = fun _ => 0 := by decide

theorem out1_1_eq (x : Vec Ideal S256x10240 .bf16) : out1_1 x = rowCodes x :=
  (View.canon_unit_zero (S := S256x10240) hz2 _ _).trans (congrArg rowCodes (View.ld_unit_zero (S := S256x10240) hz2 _ x))
theorem out1_2_eq (x : Vec Ideal S256x10240 .bf16) : out1_2 x = rowScales x :=
  (View.canon_unit_zero (S := S256x1) hz2 _ _).trans (congrArg rowScales (View.ld_unit_zero (S := S256x10240) hz2 _ x))

theorem idx1 : ∀ t : Fin cfg1.N, win1_0.index t = ![(grid1.coords t 0).val, 0] ∧ win1_1.index t = ![(grid1.coords t 0).val, 0]
    ∧ win1_2.index t = ![(grid1.coords t 0).val, 0] := by decide +kernel

variable (V : Dev nD → Valuation τ sig (Elt Ideal))

/-- A block of the array read, row by row. -/
theorem iblk1_apply (c : Dev nD) (t : Fin cfg1.N) (r : Fin 256) (k : Fin 10240) (h : (grid1.coords t 0).val * 256 + r.val < 4096) :
    iblk1 V c 0 t (ix2 r k) = V c (Proc.devRef .tc main_v1) (ix2 (⟨(grid1.coords t 0).val * 256 + r.val, h⟩ : Fin 4096) k) := by
  blk_ext [iblk1, idx1 t]

theorem row1_lt (t : Fin cfg1.N) (r : Fin 256) : (grid1.coords t 0).val * 256 + r.val < 4096 := by
  have h : (grid1.coords t 0).val < 16 := (grid1.coords t 0).isLt
  omega

theorem codes_point (c : Dev nD) (t : Fin cfg1.N) (r : Fin 256) (k : Fin 10240) :
    rowCodes (iblk1 V c 0 t) (ix2 r k) = dyCodes (V c (Proc.devRef .tc main_v1)) (ix2 (⟨(grid1.coords t 0).val * 256 + r.val, row1_lt t r⟩ : Fin 4096) k) := by
  rw [rowCodes_apply]
  simp only [iblk1_apply V c t _ _ (row1_lt t _)]
  rfl

theorem arr1_1 (c : Dev nD) : (dat1 V c).arrAt 1 cfg1.N = dyCodes (V c (Proc.devRef .tc main_v1)) := by
  refine (dat1 V c).arrAt_eq_of_covers 1 _ (by decide +kernel) fun t hf y => ?_
  blk_simp
  rw [after1_1, out1_1_eq]
  refine (congrArg (rowCodes _) (eq_ix2 (n0 := 256) (n1 := 10240) y)).trans ((codes_point V c t (y 0) (y 1)).trans (congrArg _ ?_))
  blk_ext [idx1 t]

theorem scales_point (c : Dev nD) (t : Fin cfg1.N) (r : Fin 256) (k : Fin 1) :
    rowScales (iblk1 V c 0 t) (ix2 r k) = dyScales (V c (Proc.devRef .tc main_v1)) (ix2 (⟨(grid1.coords t 0).val * 256 + r.val, row1_lt t r⟩ : Fin 4096) k) := by
  rw [rowScales_apply]
  simp only [iblk1_apply V c t _ _ (row1_lt t _)]
  rfl

theorem arr1_2 (c : Dev nD) : (dat1 V c).arrAt 2 cfg1.N = dyScales (V c (Proc.devRef .tc main_v1)) := by
  refine (dat1 V c).arrAt_eq_of_covers 2 _ (by decide +kernel) fun t hf y => ?_
  blk_simp
  rw [after1_2, out1_2_eq]
  refine (congrArg (rowScales _) (eq_ix2 (n0 := 256) (n1 := 1) y)).trans ((scales_point V c t (y 0) (y 1)).trans (congrArg _ ?_))
  blk_ext [idx1 t]

end Cert.KernelIdeal.Hand

end

end
-- ==== Proof.PayAmax.lean ====
/- What the body that finds the weight's scale computes at ideal floats, element by element. -/
module

public import proofs.«01_k».proof.Proof.Amax
public import proofs.«01_k».proof.Proof.Lanes

@[expose] public section

noncomputable section

namespace Cert.KernelIdeal.Hand

open Idealize.ShloMosaic Cert.KernelIdeal Cert.KernelIdeal.Gen Cert.Scale

/-! ## The weight's scale -/

theorem k0_field (v : Vec Ideal S16x7168 .bf16) : k0_pay10 (k0_pay7 v) (k0_pay8 v) (k0_pay9 v) = fieldV (k0_pay7 v) := rfl
theorem k0_exp (v : Vec Ideal S16x7168 .bf16) : k0_pay4 (wZero v) (wExp v) 0#32 = fexpV (fieldV (k0_pay7 v)) := rfl

/-- 512 rows folded into 16. -/
theorem k0_pay1_le (v : Vec Ideal S512x7168 .bf16) (p : Fin 16) (q : Fin 7168) (c : EReal) :
    k0_pay1 v (ix2 p q) ≤ c ↔ ∀ r : Fin 32, mag (v (ix2 (⟨16 * r + p, by omega⟩ : Fin 512) q)) ≤ c := by
  have h : k0_pay1 v (ix2 p q) = (Finset.univ : Finset (Fin 32)).fold max (Ideal.ofBits .bf16 0xFF80#16)
      (fun r : Fin 32 => mag (v (ix2 (⟨16 * r + p, by omega⟩ : Fin 512) q))) := by
    pointwise [k0_pay1]
    rfl
  rw [h, bot_bf16, Finset.fold_max_le]
  simp

theorem k0_pay2_apply (v : Vec Ideal S512x7168 .bf16) : k0_pay2 v = k0_pay1 v := by
  funext i
  pointwise [k0_pay2]
theorem k0_pay3_apply (v : Vec Ideal S512x7168 .bf16) (s : Vec Ideal S16x7168 .bf16) (i : S16x7168.Idx) :
    k0_pay3 v s i = max (s i) (k0_pay1 v i) := by
  pointwise [k0_pay3]

/-- The greatest of the running maxima. -/
def accMax (v : Vec Ideal S16x7168 .bf16) : EReal := ⨆ p : Fin 16, ⨆ q : Fin 7168, v (ix2 p q)

/-- The reduction over both axes is at most `c` exactly when every element is. -/
theorem max_le (x : FVec Ideal S1x16x7168 .f32) (j : S1.Idx) (c : EReal) :
    multiReduction (F := Ideal) (φ := .f32) .maximumf [1, 2] S1 x 0xFF800000#32 reduces_S1x16x7168_S1 (.inl rfl) rfl j ≤ c
      ↔ ∀ (p : Fin 16) (q : Fin 7168), x (ix3 0 p q) ≤ c := by
  have e := multiReduction_maximumf_eq_fold (F := Ideal) (φ := .f32) x 0xFF800000#32 reduces_S1x16x7168_S1 (.inl rfl) rfl j
  refine (iff_of_eq (congrArg (fun a : EReal => a ≤ c) e)).trans ?_
  refine (Finset.fold_max_le (b := (FloatOps.ofBits (F := Ideal) .f32 0xFF800000#32 : EReal)) c).trans ?_
  rw [show (FloatOps.ofBits (F := Ideal) .f32 0xFF800000#32 : EReal) = ⊥ from bot_f32]
  simp only [bot_le, true_and, Finset.mem_filter, Finset.mem_univ]
  constructor
  · intro hh p q
    exact hh _ (funext fun a => by
      obtain rfl : a = 0 := Subsingleton.elim (α := Fin 1) _ _
      exact Subsingleton.elim (α := Fin 1) _ _)
  · intro hh i _
    have hi : i = ix3 (0 : Fin 1) (i 1 : Fin 16) (i 2 : Fin 7168) :=
      (eq_ix3 (n0 := 1) (n1 := 16) (n2 := 7168) i).trans (congrArg (fun z => ix3 z _ _) (Subsingleton.elim (α := Fin 1) _ _))
    rw [hi]
    exact hh _ _

theorem cast_apply (v : Vec Ideal S16x7168 .bf16) (p : Fin 16) (q : Fin 7168) :
    shapeCast S1x16x7168 (extf (F := Ideal) .f32 v bitsLt_bf16_f32) shapeCasts_S16x7168_S1x16x7168 (ix3 0 p q) = v (ix2 p q) := by
  pointwise []

theorem k0_amax (v : Vec Ideal S16x7168 .bf16) (i : S8x128.Idx) : k0_pay7 v i = accMax v * r4 := by
  have h : k0_pay7 v i = multiReduction (F := Ideal) (φ := .f32) .maximumf [1, 2] S1
      (shapeCast S1x16x7168 (extf (F := Ideal) .f32 v bitsLt_bf16_f32) shapeCasts_S16x7168_S1x16x7168) 0xFF800000#32
      reduces_S1x16x7168_S1 (.inl rfl) rfl (ix1 0) * r4 := by
    pointwise [k0_pay7]
    rfl
  rw [h]
  refine congrArg (fun a : EReal => a * r4) ?_
  refine eq_of_forall_ge_iff fun c => ?_
  rw [max_le]
  simp only [cast_apply, accMax, iSup_le_iff]

theorem k0_scale (v : Vec Ideal S16x7168 .bf16) (i : S8x128.Idx) :
    k0_pay5 (F := Ideal) (wZero v) (wExp v) 0#32 i = thr (127#32 + fexp (field (accMax v * r4))) := by
  have h : k0_pay5 (F := Ideal) (wZero v) (wExp v) 0#32 i = thr (127#32 + k0_pay4 (wZero v) (wExp v) 0#32 i) := rfl
  rw [h, k0_exp, fexpV_apply, fieldV_apply, k0_amax]
theorem k0_inv (v : Vec Ideal S16x7168 .bf16) (i : S8x128.Idx) :
    k0_pay6 (F := Ideal) (wZero v) (wExp v) 0#32 i = thr (127#32 - fexp (field (accMax v * r4))) := by
  have h : k0_pay6 (F := Ideal) (wZero v) (wExp v) 0#32 i = thr (127#32 - k0_pay4 (wZero v) (wExp v) 0#32 i) := rfl
  rw [h, k0_exp, fexpV_apply, fieldV_apply, k0_amax]

end Cert.KernelIdeal.Hand

end

end
-- ==== Proof.ArrAmax.lean ====
/- The two arrays that the call finding the weight's scale leaves, as functions of the weight. -/
module

public import proofs.«01_k».proof.Proof.PayAmax
public import Idealize.ShloMosaic.Lib.Pipeline.ValueKit

@[expose] public section

noncomputable section

namespace Cert.KernelIdeal.Hand

open Idealize.ShloMosaic Cert.KernelIdeal Cert.KernelIdeal.Gen Cert.Scale

/-- The weight's greatest magnitude. -/
def wMax (A : Vec Ideal S10240x7168 .bf16) : EReal := ⨆ i : Fin 10240, ⨆ j : Fin 7168, mag (A (ix2 i j))
/-- The search's exponent of the weight's scale. -/
def wE (A : Vec Ideal S10240x7168 .bf16) : BitVec 32 := fexp (field (wMax A * r4))

theorem hz2a : (![0, 0] : Fin 2 → Nat) = fun _ => 0 := by decide

theorem accFirst_eq (x : Vec Ideal S512x7168 .bf16) : accFirst x = k0_pay1 x :=
  (View.canon_unit_zero (S := S16x7168) hz2a _ _).trans ((congrArg k0_pay2 (View.ld_unit_zero (S := S512x7168) hz2a _ x)).trans (k0_pay2_apply x))
theorem accLater_eq (x : Vec Ideal S512x7168 .bf16) (s : Vec Ideal S16x7168 .bf16) : accLater x s = k0_pay3 x s :=
  (View.canon_unit_zero (S := S16x7168) hz2a _ _).trans
    (congrArg₂ k0_pay3 (View.ld_unit_zero (S := S512x7168) hz2a _ x) (View.ld_unit_zero (S := S16x7168) hz2a _ s))
theorem scaleOut_eq (s : Vec Ideal S16x7168 .bf16) (i : S8x128.Idx) : scaleOut s i = thr (127#32 + fexp (field (accMax s * r4))) := by
  unfold scaleOut
  rw [View.canon_unit_zero (S := S8x128) hz2a, View.ld_unit_zero (S := S16x7168) hz2a, k0_scale]
theorem invOut_eq (s : Vec Ideal S16x7168 .bf16) (i : S8x128.Idx) : invOut s i = thr (127#32 - fexp (field (accMax s * r4))) := by
  unfold invOut
  rw [View.canon_unit_zero (S := S8x128) hz2a, View.ld_unit_zero (S := S16x7168) hz2a, k0_inv]

theorem idx0 : ∀ t : Fin cfg0.N, win0_0.index t = ![t.val, 0] ∧ win0_1.index t = ![0, 0] ∧ win0_2.index t = ![0, 0] := by decide +kernel

variable (V : Dev nD → Valuation τ sig (Elt Ideal))

/-- A block of the weight, row by row. -/
theorem iblk0_apply (c : Dev nD) (t : Fin cfg0.N) (r : Fin 512) (k : Fin 7168) (h : t.val * 512 + r.val < 10240) :
    iblk0 V c 0 t (ix2 r k) = V c (Proc.devRef .tc main_arg1) (ix2 (⟨t.val * 512 + r.val, h⟩ : Fin 10240) k) := by
  blk_ext [iblk0, idx0 t]

theorem row_lt (n : ℕ) (hn : n < 20) (r : Fin 32) (p : Fin 16) : n * 512 + (16 * r.val + p.val) < 10240 := by omega

theorem pay1_le (c : Dev nD) (n : ℕ) (hn : n < cfg0.N) (p : Fin 16) (q : Fin 7168) (b : EReal) :
    k0_pay1 (iblk0 V c 0 ⟨n, hn⟩) (ix2 p q) ≤ b
      ↔ ∀ r : Fin 32, mag (V c (Proc.devRef .tc main_arg1) (ix2 (⟨n * 512 + (16 * r.val + p.val), row_lt n hn r p⟩ : Fin 10240) q)) ≤ b := by
  rw [k0_pay1_le]
  exact forall_congr' fun r => by rw [iblk0_apply V c ⟨n, hn⟩ _ _ (row_lt n hn r p)]

/-- The running maxima after point `n`: of the rows of blocks `0` to `n`. -/
theorem acc_le (c : Dev nD) (n : ℕ) (hn : n < cfg0.N) (p : Fin 16) (q : Fin 7168) (b : EReal) :
    acc V c n hn (ix2 p q) ≤ b
      ↔ ∀ (n' : ℕ) (h : n' ≤ n) (r : Fin 32),
        mag (V c (Proc.devRef .tc main_arg1) (ix2 (⟨n' * 512 + (16 * r.val + p.val), row_lt n' (Nat.lt_of_le_of_lt h hn) r p⟩ : Fin 10240) q)) ≤ b := by
  induction n with
  | zero =>
    rw [show acc V c 0 hn = accFirst (iblk0 V c 0 ⟨0, hn⟩) from rfl, accFirst_eq, pay1_le]
    constructor
    · intro h n' h0 r
      obtain rfl : n' = 0 := by omega
      exact h r
    · intro h r
      exact h 0 le_rfl r
  | succ n ih =>
    rw [show acc V c (n + 1) hn = accLater (iblk0 V c 0 ⟨n + 1, hn⟩) (acc V c n (Nat.lt_of_succ_lt hn)) from rfl, accLater_eq, k0_pay3_apply,
      max_le_iff, ih, pay1_le]
    constructor
    · rintro ⟨h1, h2⟩ n' h0 r
      rcases Nat.lt_or_ge n n' with hlt | hge
      · obtain rfl : n' = n + 1 := by omega
        exact h2 r
      · exact h1 n' hge r
    · intro h
      exact ⟨fun n' h0 r => h n' (by omega) r, fun r => h (n + 1) le_rfl r⟩

/-- After the last point the greatest of the running maxima is the weight's greatest magnitude. -/
theorem accMax_last (c : Dev nD) (n : ℕ) (hn : n < cfg0.N) (h19 : n = 19) : accMax (acc V c n hn) = wMax (V c (Proc.devRef .tc main_arg1)) := by
  refine eq_of_forall_ge_iff fun b => ?_
  simp only [accMax, wMax, iSup_le_iff]
  constructor
  · intro h i j
    have e : i = (⟨(i.val / 512) * 512 + (16 * (⟨i.val % 512 / 16, by omega⟩ : Fin 32).val + (⟨i.val % 16, by omega⟩ : Fin 16).val),
        row_lt _ (by omega) _ _⟩ : Fin 10240) := Fin.ext (by show i.val = i.val / 512 * 512 + (16 * (i.val % 512 / 16) + i.val % 16); omega)
    rw [e]
    exact (acc_le V c n hn _ j b).mp (h ⟨i.val % 16, by omega⟩ j) (i.val / 512) (by omega) ⟨i.val % 512 / 16, by omega⟩
  · intro h p q
    exact (acc_le V c n hn p q b).mpr fun n' hn' r => h _ _

theorem arr0_1 (c : Dev nD) : (dat0 V c).arrAt 1 cfg0.N = fun _ : S8x128.Idx => thr (127#32 + wE (V c (Proc.devRef .tc main_arg1))) := by
  refine (dat0 V c).arrAt_eq_of_covers 1 _ (by decide +kernel) fun t hf y => ?_
  have ht := (flush0_1 t).mp hf
  have hlt : t.val < 20 := t.isLt
  blk_simp
  rw [after0_1]
  refine (scaleOut_eq _ _).trans ?_
  rw [accMax_last V c t.val t.isLt (by omega)]
  rfl

theorem arr0_2 (c : Dev nD) : (dat0 V c).arrAt 2 cfg0.N = fun _ : S8x128.Idx => thr (127#32 - wE (V c (Proc.devRef .tc main_arg1))) := by
  refine (dat0 V c).arrAt_eq_of_covers 2 _ (by decide +kernel) fun t hf y => ?_
  have ht := (flush0_2 t).mp hf
  have hlt : t.val < 20 := t.isLt
  blk_simp
  rw [after0_2]
  refine (invOut_eq _ _).trans ?_
  rw [accMax_last V c t.val t.isLt (by omega)]
  rfl

end Cert.KernelIdeal.Hand

end

end
-- ==== Proof.PayMatmul.lean ====
/- What the body that multiplies computes at ideal floats, element by element. -/
module

public import proofs.«01_k».proof.Proof.Matmul
public import proofs.«01_k».proof.Proof.Lanes

@[expose] public section

noncomputable section

namespace Cert.KernelIdeal.Hand

open Idealize.ShloMosaic Cert.KernelIdeal Cert.KernelIdeal.Gen Cert.Scale

/-! ## The product -/

theorem k2_codes (w : Vec Ideal S10240x256 .bf16) (s : Vec Ideal S1x1 .f32) (i : S10240x256.Idx) :
    k2_pay1 w s i = clip lo4 hi4 (w i * s (ix2 0 0)) := by
  rw [← hi4_bf16, ← lo4_bf16]
  pointwise [k2_pay1]
  rfl

theorem k2_dx (d : Vec Ideal S512x10240 .fp8e5m2) (w : Vec Ideal S10240x256 .fp8e4m3) (s : Vec Ideal S512x1 .f32) (t : Vec Ideal S1x1 .f32)
    (r : Fin 512) (l : Fin 256) :
    k2_pay2 d w s t (ix2 r l) = (0 + ∑ k : Fin 10240, d (ix2 r k) * w (ix2 k l)) * s (ix2 r 0) * t (ix2 0 0) := by
  pointwise [k2_pay2]

end Cert.KernelIdeal.Hand

end

end
-- ==== Proof.ArrMatmul.lean ====
/- The two arrays that the multiplying call leaves, as functions of the arrays it reads. -/
module

public import proofs.«01_k».proof.Proof.PayMatmul
public import Idealize.ShloMosaic.Lib.Pipeline.ValueKit

@[expose] public section

noncomputable section

namespace Cert.KernelIdeal.Hand

open Idealize.ShloMosaic Cert.KernelIdeal Cert.KernelIdeal.Gen Cert.Scale

/-- The weight's codes, from the weight and the inverse scale. -/
def wCodes (A : Vec Ideal S10240x7168 .bf16) (v : Vec Ideal S8x128 .f32) : Vec Ideal S10240x7168 .fp8e4m3 :=
  fun i => clip lo4 hi4 (A i * v (ix2 0 0))
/-- The scaled product of `dy`'s codes and the weight's. -/
def dxOf (D : Vec Ideal S4096x10240 .fp8e5m2) (W : Vec Ideal S10240x7168 .fp8e4m3) (s : Vec Ideal S4096x1 .f32) (u : Vec Ideal S8x128 .f32) :
    Vec Ideal S4096x7168 .bf16 :=
  fun i => (0 + ∑ k : Fin 10240, D (ix2 (i 0) k) * W (ix2 k (i 1))) * s (ix2 (i 0) 0) * u (ix2 0 0)

theorem hz2m : (![0, 0] : Fin 2 → Nat) = fun _ => 0 := by decide

/-- The one element read of a scale's buffer. -/
theorem ld_scalar (x : Vec Ideal S8x128 .f32) : View.ld x rS (ix2 0 0) = x (ix2 0 0) :=
  View.ld_unit_apply_of x _ _ _ _ (ix2 0 0) fun a => by fin_cases a <;> rfl
theorem codesOut_apply (x2 : Vec Ideal S10240x256 .bf16) (x4 : Vec Ideal S8x128 .f32) (i : S10240x256.Idx) :
    codesOut x2 x4 i = clip lo4 hi4 (x2 i * x4 (ix2 0 0)) := by
  unfold codesOut
  rw [View.canon_unit_zero (S := S10240x256) hz2m, View.ld_unit_zero (S := S10240x256) hz2m, k2_codes, ld_scalar]

theorem off2 : ∀ t : Fin cfg2.N, k2_off1 (grid2.coords t) = ![(grid2.coords t 1).val * 512, 0] := by decide +kernel
theorem row2_lt (t : Fin cfg2.N) (r : Fin 512) : (grid2.coords t 1).val * 512 + r.val < 4096 := by
  have h : (grid2.coords t 1).val < 8 := (grid2.coords t 1).isLt
  omega
theorem col2_lt (t : Fin cfg2.N) (l : Fin 256) : (grid2.coords t 0).val * 256 + l.val < 7168 := by
  have h : (grid2.coords t 0).val < 28 := (grid2.coords t 0).isLt
  omega
/-- The rows of `dy`'s codes that a point reads. -/
theorem ld_rows (t : Fin cfg2.N) (x : Vec Ideal S4096x10240 .fp8e5m2) (r : Fin 512) (k : Fin 10240) :
    View.ld x (rA (grid2.coords t)) (ix2 r k) = x (ix2 (⟨(grid2.coords t 1).val * 512 + r.val, row2_lt t r⟩ : Fin 4096) k) := by
  refine View.ld_unit_apply_of x _ _ _ _ (ix2 (⟨(grid2.coords t 1).val * 512 + r.val, row2_lt t r⟩ : Fin 4096) k) fun a => ?_
  refine Eq.trans ?_ (congrArg (fun n : ℕ => n + (ix2 r k a).val) (congrFun (off2 t) a).symm)
  fin_cases a
  · rfl
  · exact (Nat.zero_add k.val).symm

theorem dxOut_apply (t : Fin cfg2.N) (x0 : Vec Ideal S4096x10240 .fp8e5m2) (w : Vec Ideal S10240x256 .fp8e4m3) (x1 : Vec Ideal S512x1 .f32)
    (x3 : Vec Ideal S8x128 .f32) (r : Fin 512) (l : Fin 256) :
    dxOut (grid2.coords t) x0 w x1 x3 (ix2 r l)
      = (0 + ∑ k : Fin 10240, x0 (ix2 (⟨(grid2.coords t 1).val * 512 + r.val, row2_lt t r⟩ : Fin 4096) k) * w (ix2 k l)) * x1 (ix2 r 0) * x3 (ix2 0 0) := by
  unfold dxOut
  rw [View.canon_unit_zero (S := S512x256) hz2m, View.ld_unit_zero (S := S10240x256) hz2m, View.ld_unit_zero (S := S512x1) hz2m, k2_dx, ld_scalar]
  exact congrArg (fun z : EReal => (0 + z) * x1 (ix2 r 0) * x3 (ix2 0 0)) (Finset.sum_congr rfl fun k _ =>
    congrArg (fun z : EReal => z * w (ix2 k l)) (ld_rows t x0 r k))

theorem idx2 : ∀ t : Fin cfg2.N, win2_0.index t = ![0, 0] ∧ win2_1.index t = ![(grid2.coords t 1).val, 0]
    ∧ win2_2.index t = ![0, (grid2.coords t 0).val] ∧ win2_3.index t = ![0, 0] ∧ win2_4.index t = ![0, 0]
    ∧ win2_5.index t = ![(grid2.coords t 1).val, (grid2.coords t 0).val] ∧ win2_6.index t = ![0, (grid2.coords t 0).val] := by decide +kernel

variable (V : Dev nD → Valuation τ sig (Elt Ideal))

theorem iblk2_0 (c : Dev nD) (t : Fin cfg2.N) (i : Fin 4096) (k : Fin 10240) :
    iblk2 V c 0 t (ix2 i k) = V c (Proc.devRef .tc main_v2_0) (ix2 i k) := by
  blk_ext [iblk2, idx2 t]
theorem iblk2_1 (c : Dev nD) (t : Fin cfg2.N) (r : Fin 512) :
    iblk2 V c 1 t (ix2 r (0 : Fin 1)) = V c (Proc.devRef .tc main_v2_1) (ix2 (⟨(grid2.coords t 1).val * 512 + r.val, row2_lt t r⟩ : Fin 4096) (0 : Fin 1)) := by
  blk_ext [iblk2, idx2 t]
theorem iblk2_2 (c : Dev nD) (t : Fin cfg2.N) (k : Fin 10240) (l : Fin 256) :
    iblk2 V c 2 t (ix2 k l) = V c (Proc.devRef .tc main_arg1) (ix2 k (⟨(grid2.coords t 0).val * 256 + l.val, col2_lt t l⟩ : Fin 7168)) := by
  blk_ext [iblk2, idx2 t]
theorem iblk2_3 (c : Dev nD) (t : Fin cfg2.N) : iblk2 V c 3 t (ix2 (0 : Fin 8) (0 : Fin 128)) = V c (Proc.devRef .tc main_v0_0) (ix2 (0 : Fin 8) (0 : Fin 128)) := by
  blk_ext [iblk2, idx2 t]
theorem iblk2_4 (c : Dev nD) (t : Fin cfg2.N) : iblk2 V c 4 t (ix2 (0 : Fin 8) (0 : Fin 128)) = V c (Proc.devRef .tc main_v0_1) (ix2 (0 : Fin 8) (0 : Fin 128)) := by
  blk_ext [iblk2, idx2 t]

theorem wcodes_point (c : Dev nD) (t : Fin cfg2.N) (k : Fin 10240) (l : Fin 256) :
    codesOut (iblk2 V c 2 t) (iblk2 V c 4 t) (ix2 k l)
      = wCodes (V c (Proc.devRef .tc main_arg1)) (V c (Proc.devRef .tc main_v0_1))
        (ix2 k (⟨(grid2.coords t 0).val * 256 + l.val, col2_lt t l⟩ : Fin 7168)) := by
  rw [codesOut_apply, iblk2_2, iblk2_4]
  rfl

theorem dx_point (c : Dev nD) (t : Fin cfg2.N) (r : Fin 512) (l : Fin 256) :
    dxOut (grid2.coords t) (iblk2 V c 0 t) (codesOut (iblk2 V c 2 t) (iblk2 V c 4 t)) (iblk2 V c 1 t) (iblk2 V c 3 t) (ix2 r l)
      = dxOf (V c (Proc.devRef .tc main_v2_0)) (wCodes (V c (Proc.devRef .tc main_arg1)) (V c (Proc.devRef .tc main_v0_1)))
          (V c (Proc.devRef .tc main_v2_1)) (V c (Proc.devRef .tc main_v0_0))
          (ix2 (⟨(grid2.coords t 1).val * 512 + r.val, row2_lt t r⟩ : Fin 4096) (⟨(grid2.coords t 0).val * 256 + l.val, col2_lt t l⟩ : Fin 7168)) := by
  rw [dxOut_apply, iblk2_1, iblk2_3]
  simp only [iblk2_0, wcodes_point]
  rfl

theorem arr2_6 (c : Dev nD) : (dat2 V c).arrAt 6 cfg2.N = wCodes (V c (Proc.devRef .tc main_arg1)) (V c (Proc.devRef .tc main_v0_1)) := by
  refine (dat2 V c).arrAt_eq_of_covers 6 _ (by decide +kernel) fun t hf y => ?_
  blk_simp
  rw [after2_6]
  refine (congrArg (codesOut _ _) (eq_ix2 (n0 := 10240) (n1 := 256) y)).trans ((wcodes_point V c t (y 0) (y 1)).trans (congrArg _ ?_))
  blk_ext [idx2 t]

theorem arr2_5 (c : Dev nD) : (dat2 V c).arrAt 5 cfg2.N
    = dxOf (V c (Proc.devRef .tc main_v2_0)) (wCodes (V c (Proc.devRef .tc main_arg1)) (V c (Proc.devRef .tc main_v0_1)))
        (V c (Proc.devRef .tc main_v2_1)) (V c (Proc.devRef .tc main_v0_0)) := by
  refine (dat2 V c).arrAt_eq_of_covers 5 _ (by decide +kernel) fun t hf y => ?_
  blk_simp
  rw [after2_5]
  refine (congrArg (dxOut _ _ _ _ _) (eq_ix2 (n0 := 512) (n1 := 256) y)).trans ((dx_point V c t (y 0) (y 1)).trans (congrArg _ ?_))
  blk_ext [idx2 t]

end Cert.KernelIdeal.Hand

end

end
-- ==== Proof.KerValue.lean ====
/- The five results of the kernel's program at ideal floats, as functions of its arguments. -/
module

public import proofs.«01_k».proof.Proof.Run
public import proofs.«01_k».proof.Proof.ArrQuant
public import proofs.«01_k».proof.Proof.ArrAmax
public import proofs.«01_k».proof.Proof.ArrMatmul

@[expose] public section

noncomputable section

namespace Cert.KernelIdeal.Hand

open Idealize.ShloMosaic Cert.KernelIdeal Cert.KernelIdeal.Gen Cert.Scale

variable (m : (ℓ : Loc nD τ sig) → Buf (Elt Ideal) ℓ)

/-- `dy` as the program is given it, its rows in one matrix. -/
def dyOf (c : Dev nD) : Vec Ideal S4096x10240 .bf16 := shapeCast S4096x10240 (m ((c.tc : Thread nD τ).loc main_arg0)) shapeCasts_S1x4096x10240_S4096x10240
/-- The weight as the program is given it. -/
def wOf (c : Dev nD) : Vec Ideal S10240x7168 .bf16 := m ((c.tc : Thread nD τ).loc main_arg1)

theorem W0_arg1 (c : Dev nD) : W0 m c (Proc.devRef .tc main_arg1) = wOf m c := rfl

theorem W1_scale (c : Dev nD) : W1 m c (Proc.devRef .tc main_v0_0) = fun _ : S8x128.Idx => thr (127#32 + wE (wOf m c)) :=
  (Pipeline.afterRegion_arr (dat0 (W0 m) c) (W0 m c) winFacts0.arr_inj 1).trans (arr0_1 (W0 m) c)
theorem W1_inv (c : Dev nD) : W1 m c (Proc.devRef .tc main_v0_1) = fun _ : S8x128.Idx => thr (127#32 - wE (wOf m c)) :=
  (Pipeline.afterRegion_arr (dat0 (W0 m) c) (W0 m c) winFacts0.arr_inj 2).trans (arr0_2 (W0 m) c)

theorem W2_dy (c : Dev nD) : W2 m c (Proc.devRef .tc main_v1) = dyOf m c := by
  unfold W2 hostOps1
  after_results
  rw [W1_of m c main_arg0 (by decide)]
  rfl

theorem W3_codes (c : Dev nD) : W3 m c (Proc.devRef .tc main_v2_0) = dyCodes (dyOf m c) :=
  (Pipeline.afterRegion_arr (dat1 (W2 m) c) (W2 m c) winFacts1.arr_inj 1).trans ((arr1_1 (W2 m) c).trans (congrArg dyCodes (W2_dy m c)))
theorem W3_scales (c : Dev nD) : W3 m c (Proc.devRef .tc main_v2_1) = dyScales (dyOf m c) :=
  (Pipeline.afterRegion_arr (dat1 (W2 m) c) (W2 m c) winFacts1.arr_inj 2).trans ((arr1_2 (W2 m) c).trans (congrArg dyScales (W2_dy m c)))

theorem W3_scale (c : Dev nD) : W3 m c (Proc.devRef .tc main_v0_0) = fun _ : S8x128.Idx => thr (127#32 + wE (wOf m c)) :=
  (W3_of m c main_v0_0 (by decide)).trans ((W2_of m c main_v0_0 (by decide)).trans (W1_scale m c))
theorem W3_inv (c : Dev nD) : W3 m c (Proc.devRef .tc main_v0_1) = fun _ : S8x128.Idx => thr (127#32 - wE (wOf m c)) :=
  (W3_of m c main_v0_1 (by decide)).trans ((W2_of m c main_v0_1 (by decide)).trans (W1_inv m c))
theorem W3_arg1 (c : Dev nD) : W3 m c (Proc.devRef .tc main_arg1) = wOf m c :=
  (W3_of m c main_arg1 (by decide)).trans ((W2_of m c main_arg1 (by decide)).trans ((W1_of m c main_arg1 (by decide)).trans rfl))

/-- The codes the product reads. -/
def kerW (A : Vec Ideal S10240x7168 .bf16) : Vec Ideal S10240x7168 .fp8e4m3 := wCodes A (fun _ : S8x128.Idx => thr (127#32 - wE A))
/-- The product. -/
def kerDx (D : Vec Ideal S4096x10240 .bf16) (A : Vec Ideal S10240x7168 .bf16) : Vec Ideal S4096x7168 .bf16 :=
  dxOf (dyCodes D) (kerW A) (dyScales D) (fun _ : S8x128.Idx => thr (127#32 + wE A))

theorem W4_codes (c : Dev nD) : W4 m c (Proc.devRef .tc main_v3_1) = kerW (wOf m c) := by
  refine (Pipeline.afterRegion_arr (dat2 (W3 m) c) (W3 m c) winFacts2.arr_inj 6).trans ((arr2_6 (W3 m) c).trans ?_)
  rw [W3_arg1, W3_inv]
  rfl
theorem W4_dx (c : Dev nD) : W4 m c (Proc.devRef .tc main_v3_0) = kerDx (dyOf m c) (wOf m c) := by
  refine (Pipeline.afterRegion_arr (dat2 (W3 m) c) (W3 m c) winFacts2.arr_inj 5).trans ((arr2_5 (W3 m) c).trans ?_)
  rw [W3_arg1, W3_inv, W3_scale, W3_codes, W3_scales]
  rfl

/-! ## The program's results -/

theorem W4_scale (c : Dev nD) : W4 m c (Proc.devRef .tc main_v0_0) = fun _ : S8x128.Idx => thr (127#32 + wE (wOf m c)) :=
  (W4_of m c main_v0_0 (by decide)).trans (W3_scale m c)
theorem W4_dyCodes (c : Dev nD) : W4 m c (Proc.devRef .tc main_v2_0) = dyCodes (dyOf m c) :=
  (W4_of m c main_v2_0 (by decide)).trans (W3_codes m c)
theorem W4_dyScales (c : Dev nD) : W4 m c (Proc.devRef .tc main_v2_1) = dyScales (dyOf m c) :=
  (W4_of m c main_v2_1 (by decide)).trans (W3_scales m c)

theorem res_dx (c : Dev nD) : W5 m c (Proc.devRef .tc main_v4) = shapeCast S1x4096x7168 (kerDx (dyOf m c) (wOf m c)) shapeCasts_S4096x7168_S1x4096x7168 := by
  rw [← W4_dx]
  unfold W5 hostOps3
  after_results
  rfl
theorem res_wCodes (c : Dev nD) : W5 m c (Proc.devRef .tc main_v3_1) = kerW (wOf m c) :=
  (W5_of m c main_v3_1 (by decide)).trans (W4_codes m c)
theorem res_wScale (c : Dev nD) : W5 m c (Proc.devRef .tc main_v5) = fun _ : S1x1.Idx => thr (127#32 + wE (wOf m c)) := by
  have h : W5 m c (Proc.devRef .tc main_v5) = extractStridedSlice S1x1 ![0, 0] (W4 m c (Proc.devRef .tc main_v0_0)) slices_S8x128_S1x1_0_0 := by
    unfold W5 hostOps3
    after_results
  rw [h, W4_scale]
  rfl
theorem res_dyCodes (c : Dev nD) : W5 m c (Proc.devRef .tc main_v6) = shapeCast S1x4096x10240 (dyCodes (dyOf m c)) shapeCasts_S4096x10240_S1x4096x10240 := by
  rw [← W4_dyCodes]
  unfold W5 hostOps3
  after_results
  rfl
theorem res_dyScales (c : Dev nD) : W5 m c (Proc.devRef .tc main_v7) = shapeCast S1x4096x1 (dyScales (dyOf m c)) shapeCasts_S4096x1_S1x4096x1 := by
  rw [← W4_dyScales]
  unfold W5 hostOps3
  after_results
  rfl

end Cert.KernelIdeal.Hand

end

end
-- ==== Proof.RefPay.lean ====
/- What the reference's body computes at ideal floats, element by element. -/
module

public import proofs.«01_k».proof.Proof.Gen.ReferenceIdeal.Frame
public import proofs.«01_k».proof.Proof.Lanes

@[expose] public section

noncomputable section

namespace Cert.ReferenceIdeal.Hand

open Idealize.ShloMosaic Cert.ReferenceIdeal Cert.ReferenceIdeal.Gen Cert.Scale

theorem two_f32 : Ideal.ofBits .f32 0x40000000#32 = ((2 : ℝ) : EReal) := by
  simp [Ideal.ofBits, Ideal.ieee, -EReal.coe_mul]
  norm_num
theorem one_f32 : Ideal.ofBits .f32 0x3F800000#32 = 1 := by
  simp [Ideal.ofBits, Ideal.ieee, -EReal.coe_mul]
  norm_num
theorem zero_f32 : Ideal.ofBits .f32 0x00000000#32 = 0 := by
  simp [Ideal.ofBits, Ideal.ieee]

/-- The printed exponent of a greatest magnitude. -/
theorem expo_printed (r a : EReal) :
    Scalar.select (BitVec.ofBool (decide (a = Ideal.ofBits .f32 0x00000000#32))) (Ideal.ofBits .f32 0x00000000#32)
      (Ideal.liftRound Int.floor (Ideal.div (Ideal.log (a * r)) (Ideal.log (Ideal.ofBits .f32 0x40000000#32))) + Ideal.ofBits .f32 0x3F800000#32)
      = expo r a := by
  rw [two_f32, one_f32, zero_f32]
  unfold expo
  by_cases h : a = 0 <;> simp [h, Scalar.select]

/-- The exponent of every lane's greatest magnitude, `r` the bits of one over the greatest code. -/
def expoV (S : Shape) (r : BitVec 32) (v : FVec Ideal S .f32) : FVec Ideal S .f32 :=
  select (cmpf .oeq v (broadcast S (Scalar.ofBits .f32 0x00000000#32))) (broadcast S (Scalar.ofBits .f32 0x00000000#32))
    (addf (floor (divf (log (mulf v (broadcast S (Scalar.ofBits .f32 r)))) (log (broadcast S (Scalar.ofBits .f32 0x40000000#32)))))
      (broadcast S (Scalar.ofBits .f32 0x3F800000#32)))
theorem expoV_apply (S : Shape) (r : BitVec 32) (v : FVec Ideal S .f32) (i : S.Idx) : expoV S r v i = expo (Ideal.ofBits .f32 r) (v i) := by
  rw [← expo_printed]
  rfl

/-! ## The weight -/

/-- The greatest magnitude of a matrix. -/
def matMax (A : Vec Ideal S10240x7168 .bf16) : EReal := ⨆ i : Fin 10240, ⨆ j : Fin 7168, mag (A (ix2 i j))

/-- The greatest of a column is at most `c` exactly when every entry is. -/
theorem col_le (v : FVec Ideal S10240x1 .f32) (j : S1.Idx) (c : EReal) :
    multiReduction (F := Ideal) (φ := .f32) .maximumf [0] S1 v 0xFF800000#32 reduces_S10240x1_S1 (.inl rfl) rfl j ≤ c ↔ ∀ i : Fin 10240, v (ix2 i 0) ≤ c := by
  have e := multiReduction_maximumf_eq_fold (F := Ideal) (φ := .f32) v 0xFF800000#32 reduces_S10240x1_S1 (.inl rfl) rfl j
  refine (iff_of_eq (congrArg (fun a : EReal => a ≤ c) e)).trans ?_
  refine (Finset.fold_max_le (b := (FloatOps.ofBits (F := Ideal) .f32 0xFF800000#32 : EReal)) c).trans ?_
  rw [show (FloatOps.ofBits (F := Ideal) .f32 0xFF800000#32 : EReal) = ⊥ from bot_f32]
  simp only [bot_le, true_and, Finset.mem_filter, Finset.mem_univ]
  constructor
  · intro hh i
    exact hh _ (funext fun a => by
      obtain rfl : a = 0 := Subsingleton.elim (α := Fin 1) _ _
      exact Subsingleton.elim (α := Fin 1) _ _)
  · intro hh i _
    have hi : i = ix2 (i 0 : Fin 10240) (0 : Fin 1) :=
      (eq_ix2 (n0 := 10240) (n1 := 1) i).trans (congrArg (fun z => ix2 _ z) (Subsingleton.elim (α := Fin 1) _ _))
    rw [hi]
    exact hh _

/-- The row maxima, as a column. -/
def rowMaxV (A : Vec Ideal S10240x7168 .bf16) : FVec Ideal S10240x1 .f32 :=
  shapeCast S10240x1 (multiReduction .maximumf [1] S10240 (absf (k0_pay5 A)) 0xFF800000#32
    reduces_S10240x7168_S10240 (.inl rfl) rfl) shapeCasts_S10240_S10240x1
theorem rowMaxV_apply (A : Vec Ideal S10240x7168 .bf16) (i : Fin 10240) : rowMaxV A (ix2 i 0) = rowMax (fun j : Fin 7168 => A (ix2 i j)) := by
  rw [← fold_mag, ← bot_f32]
  pointwise [rowMaxV, k0_pay5]
  rfl

/-- The greatest magnitude as the body finds it: along the rows, then along the column of row maxima. -/
def matMaxV (A : Vec Ideal S10240x7168 .bf16) : FVec Ideal S1x1 .f32 :=
  shapeCast S1x1 (multiReduction .maximumf [0] S1 (rowMaxV A) 0xFF800000#32 reduces_S10240x1_S1 (.inl rfl) rfl) shapeCasts_S1_S1x1
theorem cast_apply (v : FVec Ideal S1 .f32) : shapeCast S1x1 v shapeCasts_S1_S1x1 (ix2 0 0) = v (ix1 0) := by
  pointwise []
theorem matMaxV_le (A : Vec Ideal S10240x7168 .bf16) (c : EReal) : matMaxV A (ix2 0 0) ≤ c ↔ ∀ i : Fin 10240, rowMaxV A (ix2 i 0) ≤ c :=
  (iff_of_eq (congrArg (fun a : EReal => a ≤ c) (cast_apply _))).trans (col_le (rowMaxV A) (ix1 0) c)
theorem matMaxV_apply (A : Vec Ideal S10240x7168 .bf16) : matMaxV A (ix2 0 0) = matMax A := by
  refine eq_of_forall_ge_iff fun c => (matMaxV_le A c).trans ?_
  simp only [rowMaxV_apply, matMax, rowMax, iSup_le_iff]

theorem pay6 (A : Vec Ideal S10240x7168 .bf16) : k0_pay6 A (ix2 0 0) = expo r4 (matMax A) := by
  rw [← matMaxV_apply, show k0_pay6 A = expoV S1x1 0x3B124925#32 (matMaxV A) from rfl, expoV_apply]
  rfl

theorem exp2_at (S : Shape) (v : FVec Ideal S .f32) (i : S.Idx) : exp2 v i = Ideal.exp2 (v i) := rfl
theorem pay7_eq (A : Vec Ideal S10240x7168 .bf16) : k0_pay7 A = exp2 (k0_pay6 A) := rfl
theorem pay7 (A : Vec Ideal S10240x7168 .bf16) : k0_pay7 A (ix2 0 0) = scale r4 (matMax A) := by
  rw [pay7_eq, exp2_at, pay6, scale]

/-- The weight's codes, from the exponent `e`. -/
def codesV (A : Vec Ideal S10240x7168 .bf16) (e : FVec Ideal S1x1 .f32) : FVec Ideal S10240x7168 .fp8e4m3 :=
  truncf .fp8e4m3 (minimumf (broadcast S10240x7168 (Scalar.ofBits .f32 0x43E00000#32)) (maximumf (broadcast S10240x7168 (Scalar.ofBits .f32 0xC3E00000#32))
    (mulf (k0_pay5 A) (broadcastTo S10240x7168 (exp2 (subf (broadcast S1x1 (Scalar.ofBits .f32 0x00000000#32)) e)) broadcasts_S1x1_S10240x7168)))) bitsLt_fp8e4m3_f32
theorem codesV_apply (A : Vec Ideal S10240x7168 .bf16) (e : FVec Ideal S1x1 .f32) (i : Fin 10240) (j : Fin 7168) :
    codesV A e (ix2 i j) = clip lo4 hi4 (A (ix2 i j) * Ideal.exp2 (0 - e (ix2 0 0))) := by
  rw [← zero_f32]
  pointwise [codesV, k0_pay5]
  rfl
theorem pay8 (A : Vec Ideal S10240x7168 .bf16) (i : Fin 10240) (j : Fin 7168) :
    k0_pay8 A (ix2 i j) = clip lo4 hi4 (A (ix2 i j) * inv r4 (matMax A)) := by
  rw [show k0_pay8 A = codesV A (k0_pay6 A) from rfl, codesV_apply, pay6]
  rfl

/-! ## The rows of `dy` -/

theorem pay10 (x : Vec Ideal S4096x10240 .bf16) (r : Fin 4096) :
    k0_pay10 x (ix2 r 0) = rowMax (fun k : Fin 10240 => x (ix2 r k)) := by
  rw [← fold_mag, ← bot_f32]
  pointwise [k0_pay10, k0_pay9]
  rfl

theorem pay1 (x : Vec Ideal S4096x10240 .bf16) (r : Fin 4096) :
    k0_pay1 (k0_pay11 x) (k0_pay12 x) (Ideal.ofBits .f32 0x40000000#32) (ix2 r 0) = expo r5 (rowMax (fun k : Fin 10240 => x (ix2 r k))) := by
  rw [← pay10, show k0_pay1 (k0_pay11 x) (k0_pay12 x) (Ideal.ofBits .f32 0x40000000#32) = expoV S4096x1 0x37924925#32 (k0_pay10 x) from rfl, expoV_apply]
  rfl

theorem pay2_var (z : IVec S4096x1 1) (l : Vec Ideal S4096x1 .f32) (two : EReal) (i : S4096x1.Idx) :
    k0_pay2 (F := Ideal) z l two i = Ideal.exp2 (k0_pay1 (F := Ideal) z l two i) := rfl
theorem pay2 (x : Vec Ideal S4096x10240 .bf16) (r : Fin 4096) :
    k0_pay2 (F := Ideal) (k0_pay11 x) (k0_pay12 x) (Ideal.ofBits .f32 0x40000000#32) (ix2 r 0) = scale r5 (rowMax (fun k : Fin 10240 => x (ix2 r k))) := by
  rw [pay2_var, pay1]
  rfl

/-- The codes of `dy`, from the exponents `e`. -/
def rowCodesV (x : Vec Ideal S4096x10240 .f32) (e : FVec Ideal S4096x1 .f32) : FVec Ideal S4096x10240 .fp8e5m2 :=
  truncf .fp8e5m2 (minimumf (broadcast S4096x10240 (Scalar.ofBits .f32 0x47600000#32)) (maximumf (broadcast S4096x10240 (Scalar.ofBits .f32 0xC7600000#32))
    (mulf x (broadcastTo S4096x10240 (exp2 (subf (broadcast S4096x1 (Scalar.ofBits .f32 0x00000000#32)) e)) broadcasts_S4096x1_S4096x10240)))) bitsLt_fp8e5m2_f32
theorem rowCodesV_apply (x : Vec Ideal S4096x10240 .f32) (e : FVec Ideal S4096x1 .f32) (r : Fin 4096) (k : Fin 10240) :
    rowCodesV x e (ix2 r k) = clip lo5 hi5 (x (ix2 r k) * Ideal.exp2 (0 - e (ix2 r 0))) := by
  rw [← zero_f32]
  pointwise [rowCodesV]
  rfl
theorem pay3_var (x : Vec Ideal S4096x10240 .f32) (z : IVec S4096x1 1) (l : Vec Ideal S4096x1 .f32) (two : EReal) :
    k0_pay3 (F := Ideal) x z l two = rowCodesV x (k0_pay1 (F := Ideal) z l two) := rfl
theorem pay9 (x : Vec Ideal S4096x10240 .bf16) (r : Fin 4096) (k : Fin 10240) : k0_pay9 (F := Ideal) x (ix2 r k) = x (ix2 r k) := by
  pointwise [k0_pay9]
theorem pay3 (x : Vec Ideal S4096x10240 .bf16) (r : Fin 4096) (k : Fin 10240) :
    k0_pay3 (k0_pay9 x) (k0_pay11 x) (k0_pay12 x) (Ideal.ofBits .f32 0x40000000#32) (ix2 r k)
      = clip lo5 hi5 (x (ix2 r k) * inv r5 (rowMax (fun k : Fin 10240 => x (ix2 r k)))) := by
  rw [pay3_var, rowCodesV_apply, pay1, pay9]
  rfl

/-! ## The product -/

theorem pay4 (u : Vec Ideal S1x1 .f32) (W : Vec Ideal S10240x7168 .fp8e4m3) (x : Vec Ideal S4096x10240 .f32) (z : IVec S4096x1 1) (l : Vec Ideal S4096x1 .f32)
    (two : EReal) (r : Fin 4096) (j : Fin 7168) :
    k0_pay4 (F := Ideal) u W x z l two (ix2 r j)
      = (0 + ∑ k : Fin 10240, k0_pay3 (F := Ideal) x z l two (ix2 r k) * W (ix2 k j)) * k0_pay2 (F := Ideal) z l two (ix2 r 0) * u (ix2 0 0) := by
  pointwise [k0_pay4]

end Cert.ReferenceIdeal.Hand

end

end
-- ==== Proof.RefArr.lean ====
/- The five arrays that the reference's call leaves, as functions of the two arrays it reads. -/
module

public import proofs.«01_k».proof.Proof.RefPay
public import Idealize.ShloMosaic.Lib.Pipeline.ValueKit

@[expose] public section

noncomputable section

namespace Cert.ReferenceIdeal.Hand

open Idealize.ShloMosaic Cert.ReferenceIdeal Cert.ReferenceIdeal.Gen Cert.Scale

/-- The weight's codes. -/
def refW (A : Vec Ideal S10240x7168 .bf16) : Vec Ideal S10240x7168 .fp8e4m3 := fun i => clip lo4 hi4 (A i * inv r4 (matMax A))
/-- The weight's scale. -/
def refWs (A : Vec Ideal S10240x7168 .bf16) : Vec Ideal S1x1 .f32 := fun _ => scale r4 (matMax A)
/-- The codes of `dy`. -/
def refDy (D : Vec Ideal S4096x10240 .bf16) : Vec Ideal S4096x10240 .fp8e5m2 :=
  fun i => clip lo5 hi5 (D i * inv r5 (rowMax (fun k : Fin 10240 => D (ix2 (i 0 : Fin 4096) k))))
/-- The scales of `dy`. -/
def refDys (D : Vec Ideal S4096x10240 .bf16) : Vec Ideal S4096x1 .f32 :=
  fun i => scale r5 (rowMax (fun k : Fin 10240 => D (ix2 (i 0 : Fin 4096) k)))
/-- The product, scaled. -/
def refDx (D : Vec Ideal S4096x10240 .bf16) (A : Vec Ideal S10240x7168 .bf16) : Vec Ideal S4096x7168 .bf16 :=
  fun i => (0 + ∑ k : Fin 10240, refDy D (ix2 (i 0 : Fin 4096) k) * refW A (ix2 k (i 1 : Fin 7168))) * refDys D (ix2 (i 0 : Fin 4096) 0) * refWs A (ix2 0 0)

theorem hz2 : (![0, 0] : Fin 2 → Nat) = fun _ => 0 := by decide

theorem k0_pay8_eq (A : Vec Ideal S10240x7168 .bf16) : k0_pay8 A = refW A := by
  funext i
  rw [eq_ix2 (n0 := 10240) (n1 := 7168) i]
  exact pay8 A _ _
theorem k0_pay7_eq (A : Vec Ideal S10240x7168 .bf16) : k0_pay7 A = refWs A := by
  funext i
  rw [eq_ix2 (n0 := 1) (n1 := 1) i, Subsingleton.elim (α := Fin 1) (i 0) 0, Subsingleton.elim (α := Fin 1) (i 1) 0]
  exact pay7 A
theorem k0_pay3_eq (D : Vec Ideal S4096x10240 .bf16) :
    k0_pay3 (k0_pay9 D) (k0_pay11 D) (k0_pay12 D) (Ideal.ofBits .f32 0x40000000#32) = refDy D := by
  funext i
  rw [eq_ix2 (n0 := 4096) (n1 := 10240) i]
  exact pay3 D _ _
theorem k0_pay2_eq (D : Vec Ideal S4096x10240 .bf16) :
    k0_pay2 (F := Ideal) (k0_pay11 D) (k0_pay12 D) (Ideal.ofBits .f32 0x40000000#32) = refDys D := by
  funext i
  rw [eq_ix2 (n0 := 4096) (n1 := 1) i, Subsingleton.elim (α := Fin 1) (i 1) 0]
  exact pay2 D _
theorem k0_pay4_eq (D : Vec Ideal S4096x10240 .bf16) (A : Vec Ideal S10240x7168 .bf16) :
    k0_pay4 (F := Ideal) (refWs A) (refW A) (k0_pay9 D) (k0_pay11 D) (k0_pay12 D) (Ideal.ofBits .f32 0x40000000#32) = refDx D A := by
  funext i
  refine (congrArg (k0_pay4 (F := Ideal) (refWs A) (refW A) (k0_pay9 D) (k0_pay11 D) (k0_pay12 D) (Ideal.ofBits .f32 0x40000000#32))
    (eq_ix2 (n0 := 4096) (n1 := 7168) i)).trans ((pay4 _ _ _ _ _ _ (i 0) (i 1)).trans ?_)
  rw [k0_pay3_eq, k0_pay2_eq, refDx]

theorem ldD (D : Vec Ideal S4096x10240 .bf16) : View.ld D r0_1 = D := View.ld_unit_zero (S := S4096x10240) hz2 _ D
theorem ldA (A : Vec Ideal S10240x7168 .bf16) : View.ld A r0_0 = A := View.ld_unit_zero (S := S10240x7168) hz2 _ A

theorem pay13_eq (D : Vec Ideal S4096x10240 .bf16) (A : Vec Ideal S10240x7168 .bf16) : k0_pay13 D A = refWs A :=
  (congrArg k0_pay7 (ldA A)).trans (k0_pay7_eq A)
theorem pay14_eq (D : Vec Ideal S4096x10240 .bf16) (A : Vec Ideal S10240x7168 .bf16) : k0_pay14 D A = refW A :=
  (congrArg k0_pay8 (ldA A)).trans (k0_pay8_eq A)
theorem pay15_eq (D : Vec Ideal S4096x10240 .bf16) (A : Vec Ideal S10240x7168 .bf16) : k0_pay15 D A = k0_pay9 D := congrArg k0_pay9 (ldD D)
theorem pay16_eq (D : Vec Ideal S4096x10240 .bf16) (A : Vec Ideal S10240x7168 .bf16) : k0_pay16 D A = k0_pay11 D := congrArg k0_pay11 (ldD D)
theorem pay17_eq (D : Vec Ideal S4096x10240 .bf16) (A : Vec Ideal S10240x7168 .bf16) : k0_pay17 D A = k0_pay12 D := congrArg k0_pay12 (ldD D)
theorem two_eq : (Scalar.ofBits .f32 0x40000000#32 : Ideal .f32) = Ideal.ofBits .f32 0x40000000#32 := rfl

theorem out2_eq (D : Vec Ideal S4096x10240 .bf16) (A : Vec Ideal S10240x7168 .bf16) : out0_2 D A = refDx D A := by
  refine (View.canon_unit_zero (S := S4096x7168) hz2 _ _).trans ?_
  rw [pay13_eq, pay14_eq, pay15_eq, pay16_eq, pay17_eq, two_eq, k0_pay4_eq]
theorem out3_eq (D : Vec Ideal S4096x10240 .bf16) (A : Vec Ideal S10240x7168 .bf16) : out0_3 D A = refW A :=
  (View.canon_unit_zero (S := S10240x7168) hz2 _ _).trans (pay14_eq D A)
theorem out4_eq (D : Vec Ideal S4096x10240 .bf16) (A : Vec Ideal S10240x7168 .bf16) : out0_4 D A = refWs A :=
  (View.canon_unit_zero (S := S1x1) hz2 _ _).trans (pay13_eq D A)
theorem out5_eq (D : Vec Ideal S4096x10240 .bf16) (A : Vec Ideal S10240x7168 .bf16) : out0_5 D A = refDy D := by
  refine (View.canon_unit_zero (S := S4096x10240) hz2 _ _).trans ?_
  rw [pay15_eq, pay16_eq, pay17_eq, two_eq, k0_pay3_eq]
theorem out6_eq (D : Vec Ideal S4096x10240 .bf16) (A : Vec Ideal S10240x7168 .bf16) : out0_6 D A = refDys D := by
  refine (View.canon_unit_zero (S := S4096x1) hz2 _ _).trans ?_
  rw [pay16_eq, pay17_eq, two_eq, k0_pay2_eq]

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] := by decide +kernel

variable (m : (ℓ : Loc nD τ sig) → Buf (Elt Ideal) ℓ)

theorem iblk_0 (c : Dev nD) (t : Fin cfg0.N) : (iblk m c 0 t : Vec Ideal S4096x10240 .bf16) = V m c main_v0 := by
  funext y
  rw [eq_ix2 (n0 := 4096) (n1 := 10240) y]
  blk_ext [iblk, idx t]
theorem iblk_1 (c : Dev nD) (t : Fin cfg0.N) : (iblk m c 1 t : Vec Ideal S10240x7168 .bf16) = V m c main_arg1 := by
  funext y
  rw [eq_ix2 (n0 := 10240) (n1 := 7168) y]
  blk_ext [iblk, idx t]

theorem arr_2 (c : Dev nD) : (dats m 0 c).arrAt 2 cfg0.N = refDx (V m c main_v0) (V m c main_arg1) := by
  refine (dats m 0 c).arrAt_eq_of_covers 2 _ (by decide +kernel) fun t hf y => ?_
  blk_simp
  rw [after0_2, iblk_0, iblk_1, out2_eq]
  refine congrArg (refDx _ _) ?_
  blk_ext [idx t]
theorem arr_3 (c : Dev nD) : (dats m 0 c).arrAt 3 cfg0.N = refW (V m c main_arg1) := by
  refine (dats m 0 c).arrAt_eq_of_covers 3 _ (by decide +kernel) fun t hf y => ?_
  blk_simp
  rw [after0_3, iblk_0, iblk_1, out3_eq]
  refine congrArg (refW _) ?_
  blk_ext [idx t]
theorem arr_4 (c : Dev nD) : (dats m 0 c).arrAt 4 cfg0.N = refWs (V m c main_arg1) := by
  refine (dats m 0 c).arrAt_eq_of_covers 4 _ (by decide +kernel) fun t hf y => ?_
  blk_simp
  rw [after0_4, iblk_0, iblk_1, out4_eq]
  refine congrArg (refWs _) ?_
  blk_ext [idx t]
theorem arr_5 (c : Dev nD) : (dats m 0 c).arrAt 5 cfg0.N = refDy (V m c main_v0) := by
  refine (dats m 0 c).arrAt_eq_of_covers 5 _ (by decide +kernel) fun t hf y => ?_
  blk_simp
  rw [after0_5, iblk_0, iblk_1, out5_eq]
  refine congrArg (refDy _) ?_
  blk_ext [idx t]
theorem arr_6 (c : Dev nD) : (dats m 0 c).arrAt 6 cfg0.N = refDys (V m c main_v0) := by
  refine (dats m 0 c).arrAt_eq_of_covers 6 _ (by decide +kernel) fun t hf y => ?_
  blk_simp
  rw [after0_6, iblk_0, iblk_1, out6_eq]
  refine congrArg (refDys _) ?_
  blk_ext [idx t]

end Cert.ReferenceIdeal.Hand

end

end
-- ==== Proof.RefValue.lean ====
/- The five results of the reference's program at ideal floats, as functions of its arguments. -/
module

public import proofs.«01_k».proof.Proof.RefArr

@[expose] public section

noncomputable section

namespace Cert.ReferenceIdeal.Hand

open Idealize.ShloMosaic Cert.ReferenceIdeal Cert.ReferenceIdeal.Gen Cert.Scale

variable (m : (ℓ : Loc nD τ sig) → Buf (Elt Ideal) ℓ)

/-- `dy` as the program is given it, its rows in one matrix. -/
def dyOf (c : Dev nD) : Vec Ideal S4096x10240 .bf16 := shapeCast S4096x10240 (m ((c.tc : Thread nD τ).loc main_arg0)) shapeCasts_S1x4096x10240_S4096x10240
/-- The weight as the program is given it. -/
def wOf (c : Dev nD) : Vec Ideal S10240x7168 .bf16 := m ((c.tc : Thread nD τ).loc main_arg1)

theorem after_dy (W : Valuation τ sig (Elt Ideal)) :
    StableHlo.after (hostOps0 (F := Ideal)) W (Proc.devRef .tc main_v0)
      = (shapeCast S4096x10240 (W (Proc.devRef .tc main_arg0)) shapeCasts_S1x4096x10240_S4096x10240 : Vec Ideal S4096x10240 .bf16) := by
  unfold hostOps0
  after_results
  rfl
theorem V_dy (c : Dev nD) : V m c main_v0 = dyOf m c := after_dy (fun b => m (c, b))
theorem V_w (c : Dev nD) : V m c main_arg1 = wOf m c := V_main_arg1 m c

/-- What the lines after the call find. -/
abbrev U (c : Dev nD) : Valuation τ sig (Elt Ideal) :=
  Pipeline.withArrays (cfgs 0).spec c (V0 m c) fun w => (dats m 0 c).arrAt w (cfgs 0).N
theorem U_dx (c : Dev nD) : U m c (Proc.devRef .tc main_v1_0) = refDx (dyOf m c) (wOf m c) := by
  rw [← V_dy, ← V_w, ← arr_2]
  exact Pipeline.withArrays_arr (cfgs 0).spec winFacts0.arr_inj c (V0 m c) _ 2
theorem U_dyCodes (c : Dev nD) : U m c (Proc.devRef .tc main_v1_3) = refDy (dyOf m c) := by
  rw [← V_dy, ← arr_5]
  exact Pipeline.withArrays_arr (cfgs 0).spec winFacts0.arr_inj c (V0 m c) _ 5
theorem U_dyScales (c : Dev nD) : U m c (Proc.devRef .tc main_v1_4) = refDys (dyOf m c) := by
  rw [← V_dy, ← arr_6]
  exact Pipeline.withArrays_arr (cfgs 0).spec winFacts0.arr_inj c (V0 m c) _ 6

theorem tail_dx (c : Dev nD) : Pipeline.afterTail₀ cfgs (dats m) 0 (V0 m) [hostOps1] c main_v2
    = shapeCast S1x4096x7168 (refDx (dyOf m c) (wOf m c)) shapeCasts_S4096x7168_S1x4096x7168 := by
  rw [← U_dx]
  unfold Pipeline.afterTail₀ hostOps1
  after_results
  rfl
theorem tail_dyCodes (c : Dev nD) : Pipeline.afterTail₀ cfgs (dats m) 0 (V0 m) [hostOps1] c main_v3
    = shapeCast S1x4096x10240 (refDy (dyOf m c)) shapeCasts_S4096x10240_S1x4096x10240 := by
  rw [← U_dyCodes]
  unfold Pipeline.afterTail₀ hostOps1
  after_results
  rfl
theorem tail_dyScales (c : Dev nD) : Pipeline.afterTail₀ cfgs (dats m) 0 (V0 m) [hostOps1] c main_v4
    = shapeCast S1x4096x1 (refDys (dyOf m c)) shapeCasts_S4096x1_S1x4096x1 := by
  rw [← U_dyScales]
  unfold Pipeline.afterTail₀ hostOps1
  after_results
  rfl

/-- What the program leaves. -/
theorem value (ρ : Dev nD → PrngReg) : θ_run defs (onTc (τ := τ) (main (F := Ideal))) ⟨m, fun _ => 0, ρ⟩ (fun r => ∀ c : Dev nD,
    r.2.mem ((c.tc : Thread nD τ).loc main_v2) = shapeCast S1x4096x7168 (refDx (dyOf m c) (wOf m c)) shapeCasts_S4096x7168_S1x4096x7168
    ∧ r.2.mem ((c.tc : Thread nD τ).loc main_v1_1) = refW (wOf m c)
    ∧ r.2.mem ((c.tc : Thread nD τ).loc main_v1_2) = refWs (wOf m c)
    ∧ r.2.mem ((c.tc : Thread nD τ).loc main_v3) = shapeCast S1x4096x10240 (refDy (dyOf m c)) shapeCasts_S4096x10240_S1x4096x10240
    ∧ r.2.mem ((c.tc : Thread nD τ).loc main_v4) = shapeCast S1x4096x1 (refDys (dyOf m c)) shapeCasts_S4096x1_S1x4096x1
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (tail_dx m c),
      ((h c).1 3).trans ((arr_3 m c).trans (congrArg refW (V_w m c))),
      ((h c).1 4).trans ((arr_4 m c).trans (congrArg refWs (V_w m c))),
      ((h c).2 main_v3 (Pipeline.mem_restRefs_of main_v3 (by decide) (by decide))).trans (tail_dyCodes m c),
      ((h c).2 main_v4 (Pipeline.mem_restRefs_of main_v4 (by decide) (by decide))).trans (tail_dyScales m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

end Cert.ReferenceIdeal.Hand

end

end
-- ==== Proof.Range.lean ====
/- What the precondition says at ideal floats: the greatest magnitude of the weight, and of each row of `dy`, is in range. -/
module

public import proofs.«01_k».proof.Pre_in_range
public import proofs.«01_k».proof.Proof.Lanes
public import Idealize.ShloMosaic.PureOps.Reduce

@[expose] public section

noncomputable section

namespace Cert.Pre_in_range.Hand

open Idealize.ShloMosaic Cert.Pre_in_range Cert.Scale

theorem facts : Facts := ⟨by decide, by decide, by decide, by decide, by decide⟩

theorem least_normal : Ideal.ofBits .f32 0x00800000#32 = (((2 : ℝ) ^ (-126 : ℤ) : ℝ) : EReal) := by
  simp [Ideal.ofBits, Ideal.ieee, -EReal.coe_mul]
  norm_num
theorem two_126 : Ideal.ofBits .f32 0x7E800000#32 = (((2 : ℝ) ^ (126 : ℤ) : ℝ) : EReal) := by
  rw [show (2 : ℝ) ^ (126 : ℤ) = 85070591730234615865843651857942052864 by norm_num]
  simp [Ideal.ofBits, Ideal.ieee, -EReal.coe_mul]
  norm_num

/-- The printed test, one lane at a time. -/
theorem inRange_lane (r a : EReal)
    (h : BitVec.ofBool (decide (a = Ideal.ofBits .f32 0x00000000#32))
      ||| (BitVec.ofBool (decide (Ideal.ofBits .f32 0x00800000#32 ≤ a * r)) &&& BitVec.ofBool (decide (a * r < Ideal.ofBits .f32 0x7E800000#32))) = 1#1) :
    InRange r a := by
  rw [least_normal, two_126, show Ideal.ofBits .f32 0x00000000#32 = 0 by simp [Ideal.ofBits, Ideal.ieee]] at h
  unfold InRange
  by_cases h0 : a = 0
  · exact .inl h0
  · by_cases h1 : (((2 : ℝ) ^ (-126 : ℤ) : ℝ) : EReal) ≤ a * r
    · by_cases h2 : a * r < (((2 : ℝ) ^ (126 : ℤ) : ℝ) : EReal)
      · exact .inr ⟨h1, h2⟩
      · rw [decide_eq_false h0, decide_eq_false h2] at h
        exfalso
        revert h
        cases decide ((((2 : ℝ) ^ (-126 : ℤ) : ℝ) : EReal) ≤ a * r) <;> decide
    · rw [decide_eq_false h0, decide_eq_false h1] at h
      exfalso
      revert h
      cases decide (a * r < (((2 : ℝ) ^ (126 : ℤ) : ℝ) : EReal)) <;> decide

variable [Facts]
open Facts

/-- The greatest magnitude of the weight, as the precondition finds it. -/
def wM (y : FVec Ideal S10240x7168 .bf16) : FVec Ideal S_ .f32 :=
  Host.reduce FloatOps.maximumf (Host.absf (extf .f32 y bitsLt_bf16_f32)) (constant S_ .f32 0xFF800000#32) reducesTo_S10240x7168_S_d0_1 h_S_
/-- The greatest magnitude of each row of `dy`, as the precondition finds it. -/
def dyM (x : FVec Ideal S1x4096x10240 .bf16) : FVec Ideal S1x4096 .f32 :=
  Host.reduce FloatOps.maximumf (Host.absf (extf .f32 x bitsLt_bf16_f32)) (constant S_ .f32 0xFF800000#32) reducesTo_S1x4096x10240_S1x4096_d2 h_S_

theorem wM_le (y : FVec Ideal S10240x7168 .bf16) (j : S_.Idx) (c : EReal) :
    wM y j ≤ c ↔ ∀ (p : Fin 10240) (q : Fin 7168), mag (y (ix2 p q)) ≤ c := by
  have e := Host.reduce_eq_fold (FloatOps.maximumf (F := Ideal) (φ := .f32)) (Host.absf (extf .f32 y bitsLt_bf16_f32)) (constant S_ .f32 0xFF800000#32)
    reducesTo_S10240x7168_S_d0_1 h_S_ j
  refine (iff_of_eq (congrArg (fun a : EReal => a ≤ c) e)).trans ?_
  refine (Finset.fold_max_le (b := (FloatOps.ofBits (F := Ideal) .f32 0xFF800000#32 : EReal)) c).trans ?_
  rw [show (FloatOps.ofBits (F := Ideal) .f32 0xFF800000#32 : EReal) = ⊥ from bot_f32]
  simp only [bot_le, true_and, Finset.mem_filter, Finset.mem_univ]
  constructor
  · intro hh p q
    exact hh _ (funext fun a => a.elim0)
  · intro hh i _
    have hi : i = ix2 (i 0 : Fin 10240) (i 1 : Fin 7168) := eq_ix2 (n0 := 10240) (n1 := 7168) i
    rw [hi]
    exact hh _ _
theorem wM_apply (y : FVec Ideal S10240x7168 .bf16) (j : S_.Idx) : wM y j = ⨆ p : Fin 10240, ⨆ q : Fin 7168, mag (y (ix2 p q)) := by
  refine eq_of_forall_ge_iff fun c => (wM_le y j c).trans ?_
  simp only [iSup_le_iff]

theorem dyM_le (x : FVec Ideal S1x4096x10240 .bf16) (r : Fin 4096) (c : EReal) :
    dyM x (ix2 0 r) ≤ c ↔ ∀ k : Fin 10240, mag (x (ix3 0 r k)) ≤ c := by
  have e := Host.reduce_eq_fold (FloatOps.maximumf (F := Ideal) (φ := .f32)) (Host.absf (extf .f32 x bitsLt_bf16_f32)) (constant S_ .f32 0xFF800000#32)
    reducesTo_S1x4096x10240_S1x4096_d2 h_S_ (ix2 0 r)
  refine (iff_of_eq (congrArg (fun a : EReal => a ≤ c) e)).trans ?_
  refine (Finset.fold_max_le (b := (FloatOps.ofBits (F := Ideal) .f32 0xFF800000#32 : EReal)) c).trans ?_
  rw [show (FloatOps.ofBits (F := Ideal) .f32 0xFF800000#32 : EReal) = ⊥ from bot_f32]
  simp only [bot_le, true_and, Finset.mem_filter, Finset.mem_univ]
  constructor
  · intro hh k
    refine hh (ix3 0 r k) (funext fun a => ?_)
    match a with
    | ⟨0, _⟩ => rfl
    | ⟨1, _⟩ => rfl
  · intro hh i hd
    have h1 : (i 1 : Fin 4096) = r := Fin.ext (congrArg Fin.val (congrFun hd 1))
    have hi : i = ix3 (0 : Fin 1) r (i 2 : Fin 10240) := by
      refine (eq_ix3 (n0 := 1) (n1 := 4096) (n2 := 10240) i).trans ?_
      exact (congrArg (fun z => ix3 z (i 1 : Fin 4096) (i 2 : Fin 10240)) (Subsingleton.elim (α := Fin 1) _ _)).trans
        (congrArg (fun z => ix3 (0 : Fin 1) z (i 2 : Fin 10240)) h1)
    rw [hi]
    exact hh _
theorem dyM_apply (x : FVec Ideal S1x4096x10240 .bf16) (r : Fin 4096) : dyM x (ix2 0 r) = rowMax (fun k : Fin 10240 => x (ix3 0 r k)) := by
  refine eq_of_forall_ge_iff fun c => (dyM_le x r c).trans ?_
  simp only [rowMax, iSup_le_iff]

/-- The printed test of the greatest magnitudes `M`. -/
def test (S : Shape) (z r lo hi : FVec Ideal S .f32) (M : FVec Ideal S .f32) : IVec S 1 :=
  ori (cmpf .oeq M z) (andi (cmpf .oge (mulf M r) lo) (cmpf .olt (mulf M r) hi))
theorem test_apply (S : Shape) (z r lo hi M : FVec Ideal S .f32) (i : S.Idx) : test S z r lo hi M i
    = BitVec.ofBool (decide (M i = z i)) ||| (BitVec.ofBool (decide (lo i ≤ M i * r i)) &&& BitVec.ofBool (decide (M i * r i < hi i))) := rfl

theorem inRange_w (x : FVec Ideal S1x4096x10240 .bf16) (y : FVec Ideal S10240x7168 .bf16) (h : (fn x y).1 = fun _ => 1#1) :
    InRange r4 (⨆ p : Fin 10240, ⨆ q : Fin 7168, mag (y (ix2 p q))) := by
  have h0 : test S_ (constant S_ .f32 0x00000000#32) (constant S_ .f32 0x3B124925#32) (constant S_ .f32 0x00800000#32) (constant S_ .f32 0x7E800000#32)
      (wM y) = fun _ => 1#1 := h
  rw [← wM_apply y ix0]
  refine inRange_lane _ _ ?_
  have h1 := congrFun h0 ix0
  rw [test_apply] at h1
  exact h1
theorem inRange_dy (x : FVec Ideal S1x4096x10240 .bf16) (y : FVec Ideal S10240x7168 .bf16) (h : (fn x y).2 = fun _ => 1#1) (r : Fin 4096) :
    InRange r5 (rowMax (fun k : Fin 10240 => x (ix3 0 r k))) := by
  have h0 : test S1x4096 (broadcastInDim S1x4096 ![] bcast_S_S1x4096 (constant S_ .f32 0x00000000#32))
      (broadcastInDim S1x4096 ![] bcast_S_S1x4096 (constant S_ .f32 0x37924925#32)) (broadcastInDim S1x4096 ![] bcast_S_S1x4096 (constant S_ .f32 0x00800000#32))
      (broadcastInDim S1x4096 ![] bcast_S_S1x4096 (constant S_ .f32 0x7E800000#32)) (dyM x) = fun _ => 1#1 := h
  rw [← dyM_apply x r]
  refine inRange_lane _ _ ?_
  have h1 := congrFun h0 (ix2 0 r)
  rw [test_apply] at h1
  exact h1

end Cert.Pre_in_range.Hand

end

end
-- ==== Proof.Equal.lean ====
/- In range, the kernel's five results are the reference's. -/
module

public import proofs.«01_k».proof.Proof.KerValue
public import proofs.«01_k».proof.Proof.RefValue
public import proofs.«01_k».proof.Proof.Range
public import proofs.«01_k».proof.Defs

@[expose] public section

noncomputable section

namespace Cert.Proof

open Idealize.ShloMosaic Cert.Scale

/-! ## The scales -/

/-- In range, the search's powers of two are the reference's, for the weight. -/
theorem scales_w (A : Vec Ideal Cert.KernelIdeal.S10240x7168 .bf16) (h : InRange r4 (Cert.KernelIdeal.Hand.wMax A)) :
    thr (127#32 + Cert.KernelIdeal.Hand.wE A) = scale r4 (Cert.KernelIdeal.Hand.wMax A)
      ∧ thr (127#32 - Cert.KernelIdeal.Hand.wE A) = inv r4 (Cert.KernelIdeal.Hand.wMax A) := by
  obtain ⟨r, hr, h0, _⟩ := r4_real
  unfold Cert.KernelIdeal.Hand.wE
  rw [hr] at h ⊢
  exact scales_eq r h0 _ h

/-- In range, the search's powers of two are the reference's, for a row of `dy`. -/
theorem scales_dy (D : Vec Ideal Cert.KernelIdeal.S4096x10240 .bf16) (i : Fin 4096) (h : InRange r5 (rowMax (fun k : Fin 10240 => D (ix2 i k)))) :
    thr (127#32 + Cert.KernelIdeal.Hand.rowE D i) = scale r5 (rowMax (fun k : Fin 10240 => D (ix2 i k)))
      ∧ thr (127#32 - Cert.KernelIdeal.Hand.rowE D i) = inv r5 (rowMax (fun k : Fin 10240 => D (ix2 i k))) := by
  obtain ⟨r, hr, h0, _⟩ := r5_real
  unfold Cert.KernelIdeal.Hand.rowE
  rw [hr] at h ⊢
  exact scales_eq r h0 _ h

/-! ## The arrays -/

variable (D : Vec Ideal Cert.KernelIdeal.S4096x10240 .bf16) (A : Vec Ideal Cert.KernelIdeal.S10240x7168 .bf16)
  (hD : ∀ i : Fin 4096, InRange r5 (rowMax (fun k : Fin 10240 => D (ix2 i k)))) (hA : InRange r4 (Cert.KernelIdeal.Hand.wMax A))

include hA in
theorem w_codes : Cert.KernelIdeal.Hand.kerW A = Cert.ReferenceIdeal.Hand.refW A := by
  funext i
  exact congrArg (fun z : EReal => clip lo4 hi4 (A i * z)) (scales_w A hA).2
include hA in
theorem w_scale : (fun _ : Cert.KernelIdeal.S1x1.Idx => thr (127#32 + Cert.KernelIdeal.Hand.wE A)) = Cert.ReferenceIdeal.Hand.refWs A := by
  funext i
  exact (scales_w A hA).1
include hD in
theorem dy_codes : Cert.KernelIdeal.Hand.dyCodes D = Cert.ReferenceIdeal.Hand.refDy D := by
  funext i
  exact congrArg (fun z : EReal => clip lo5 hi5 (D i * z)) (scales_dy D (i 0) (hD (i 0))).2
include hD in
theorem dy_scales : Cert.KernelIdeal.Hand.dyScales D = Cert.ReferenceIdeal.Hand.refDys D := by
  funext i
  exact (scales_dy D (i 0) (hD (i 0))).1
include hD hA in
theorem dx : Cert.KernelIdeal.Hand.kerDx D A = Cert.ReferenceIdeal.Hand.refDx D A := by
  funext i
  unfold Cert.KernelIdeal.Hand.kerDx Cert.KernelIdeal.Hand.dxOf Cert.ReferenceIdeal.Hand.refDx
  rw [dy_codes D hD, dy_scales D hD, w_codes A hA]
  exact congrArg (fun z : EReal => (0 + ∑ k : Fin 10240, Cert.ReferenceIdeal.Hand.refDy D (ix2 (i 0) k) * Cert.ReferenceIdeal.Hand.refW A (ix2 k (i 1)))
    * Cert.ReferenceIdeal.Hand.refDys D (ix2 (i 0) 0) * z) (scales_w A hA).1

/-! ## The programs -/

/-- A row of the matrix is a row of `dy`. -/
theorem row_cast (x : Vec Ideal Cert.KernelIdeal.S1x4096x10240 .bf16) (i : Fin 4096) (k : Fin 10240) :
    shapeCast Cert.KernelIdeal.S4096x10240 x Cert.KernelIdeal.Gen.facts.shapeCasts_S1x4096x10240_S4096x10240 (ix2 i k) = x (ix3 0 i k) := by
  pointwise []

theorem algebraic : algebraic_KernelIdeal_ReferenceIdeal_pre_in_range (hKernelIdeal := Cert.KernelIdeal.Gen.facts)
    (hReferenceIdeal := Cert.ReferenceIdeal.Gen.facts) (hPre_in_range := Cert.Pre_in_range.Hand.facts) := by
  intro m g m' g' hp hm
  have hA : ∀ c, InRange r4 (Cert.KernelIdeal.Hand.wMax (Cert.KernelIdeal.Hand.wOf m c)) := fun c =>
    letI := Cert.Pre_in_range.Hand.facts
    Cert.Pre_in_range.Hand.inRange_w _ _ (hp c).1
  have hD : ∀ c (i : Fin 4096), InRange r5 (rowMax (fun k : Fin 10240 => Cert.KernelIdeal.Hand.dyOf m c (ix2 i k))) := fun c i => by
    letI := Cert.Pre_in_range.Hand.facts
    have h := Cert.Pre_in_range.Hand.inRange_dy _ _ (hp c).2 i
    refine cast (congrArg (InRange r5) (congrArg rowMax (funext fun k => ?_))) h
    exact (row_cast _ i k).symm
  have ew : ∀ c, Cert.ReferenceIdeal.Hand.wOf m' c = Cert.KernelIdeal.Hand.wOf m c := fun c => (hm c).2
  have ed : ∀ c, Cert.ReferenceIdeal.Hand.dyOf m' c = Cert.KernelIdeal.Hand.dyOf m c := fun c =>
    congrArg (fun x : Vec Ideal Cert.KernelIdeal.S1x4096x10240 .bf16 =>
      shapeCast Cert.KernelIdeal.S4096x10240 x Cert.KernelIdeal.Gen.facts.shapeCasts_S1x4096x10240_S4096x10240) (hm c).1
  refine ⟨fun c => Cert.KernelIdeal.Hand.W5 m c (Proc.devRef .tc Cert.KernelIdeal.main_v4),
    fun c => Cert.KernelIdeal.Hand.W5 m c (Proc.devRef .tc Cert.KernelIdeal.main_v3_1),
    fun c => Cert.KernelIdeal.Hand.W5 m c (Proc.devRef .tc Cert.KernelIdeal.main_v5),
    fun c => Cert.KernelIdeal.Hand.W5 m c (Proc.devRef .tc Cert.KernelIdeal.main_v6),
    fun c => Cert.KernelIdeal.Hand.W5 m c (Proc.devRef .tc Cert.KernelIdeal.main_v7), ?_, ?_⟩
  · exact (θ_run _ _ _).mono (fun _ h c => ⟨h.1 c Cert.KernelIdeal.main_v4 rfl, h.1 c Cert.KernelIdeal.main_v3_1 rfl, h.1 c Cert.KernelIdeal.main_v5 rfl,
      h.1 c Cert.KernelIdeal.main_v6 rfl, h.1 c Cert.KernelIdeal.main_v7 rfl,
      (h.1 c Cert.KernelIdeal.main_arg0 rfl).trans (Cert.KernelIdeal.Hand.W5_arg0 m c),
      (h.1 c Cert.KernelIdeal.main_arg1 rfl).trans (Cert.KernelIdeal.Hand.W5_arg1 m c)⟩) (Cert.KernelIdeal.Hand.run_main m g)
  · refine (θ_run _ _ _).mono (fun _ h c => ?_) (Cert.ReferenceIdeal.Hand.value m' g')
    obtain ⟨h0, h1, h2, h3, h4, h5, h6⟩ := h c
    rw [ew, ed, ← dx _ _ (hD c) (hA c)] at h0
    rw [ew, ← w_codes _ (hA c)] at h1
    rw [ew, ← w_scale _ (hA c)] at h2
    rw [ed, ← dy_codes _ (hD c)] at h3
    rw [ed, ← dy_scales _ (hD c)] at h4
    exact ⟨h0.trans (Cert.KernelIdeal.Hand.res_dx m c).symm, h1.trans (Cert.KernelIdeal.Hand.res_wCodes m c).symm,
      h2.trans (Cert.KernelIdeal.Hand.res_wScale m c).symm, h3.trans (Cert.KernelIdeal.Hand.res_dyCodes m c).symm,
      h4.trans (Cert.KernelIdeal.Hand.res_dyScales m c).symm, h5, h6⟩

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Run
public import proofs.«01_k».proof.Proof.Same
public import proofs.«01_k».proof.Proof.Equal
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The kernel's frame at its own float formats: it is the program the ideal reading runs. -/
theorem frame_kernel : quiescent_Kernel (hKernel := Cert.Kernel.Gen.facts) := by
  intro m ρ _
  rw [defs_eq, main_eq]
  exact Cert.KernelIdeal.Hand.frame m ρ

theorem claim : Cert.Claim := ⟨Cert.Kernel.Gen.facts, Cert.KernelIdeal.Gen.facts, Cert.ReferenceIdeal.Gen.facts, Cert.Pre_in_range.Hand.facts,
  frame_kernel, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
